-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x43x768 : Shape := ⟨3, ![1024, 43, 768]⟩
abbrev S1024x43 : Shape := ⟨2, ![1024, 43]⟩
abbrev S3x87x768 : Shape := ⟨3, ![3, 87, 768]⟩
abbrev S768x768 : Shape := ⟨2, ![768, 768]⟩
abbrev S1024x43x1 : Shape := ⟨3, ![1024, 43, 1]⟩
abbrev S1024x43x87 : Shape := ⟨3, ![1024, 43, 87]⟩
abbrev S64x43x768 : Shape := ⟨3, ![64, 43, 768]⟩
abbrev S64x43x1 : Shape := ⟨3, ![64, 43, 1]⟩
abbrev S64x43x87 : Shape := ⟨3, ![64, 43, 87]⟩
abbrev S1x43x768 : Shape := ⟨3, ![1, 43, 768]⟩
abbrev S43x768 : Shape := ⟨2, ![43, 768]⟩
abbrev S2752x768 : Shape := ⟨2, ![2752, 768]⟩
abbrev S1x43x1 : Shape := ⟨3, ![1, 43, 1]⟩
abbrev S43x1 : Shape := ⟨2, ![43, 1]⟩
abbrev S2752x1 : Shape := ⟨2, ![2752, 1]⟩
abbrev S2752 : Shape := ⟨1, ![2752]⟩
abbrev S1x87x768 : Shape := ⟨3, ![1, 87, 768]⟩
abbrev S87x768 : Shape := ⟨2, ![87, 768]⟩
abbrev S87 : Shape := ⟨1, ![87]⟩
abbrev S1x87 : Shape := ⟨2, ![1, 87]⟩
abbrev S2752x87 : Shape := ⟨2, ![2752, 87]⟩
abbrev S43x87 : Shape := ⟨2, ![43, 87]⟩
abbrev S64x87 : Shape := ⟨2, ![64, 87]⟩
abbrev S2752x64 : Shape := ⟨2, ![2752, 64]⟩
abbrev S1x43x87 : Shape := ⟨3, ![1, 43, 87]⟩
abbrev S87x3x768 : Shape := ⟨3, ![87, 3, 768]⟩
abbrev S261x768 : Shape := ⟨2, ![261, 768]⟩

abbrev nBuf : Space → Nat
  | .hbm => 10
  | .vmem => 9
  | .smem => 0
  | _ => 0

abbrev bufTy : (tb : Table) → Fin (tcTables nBuf tb) → BufTy
  | .hbm, ⟨0, _⟩ => ⟨S1024x43x768, .f32⟩
  | .hbm, ⟨1, _⟩ => ⟨S1024x43, .i1⟩
  | .hbm, ⟨2, _⟩ => ⟨S3x87x768, .f32⟩
  | .hbm, ⟨3, _⟩ => ⟨S768x768, .f32⟩
  | .hbm, ⟨4, _⟩ => ⟨S1024x43, .f32⟩
  | .hbm, ⟨5, _⟩ => ⟨S1024x43x1, .f32⟩
  | .hbm, ⟨6, _⟩ => ⟨S1024x43x768, .f32⟩
  | .hbm, ⟨7, _⟩ => ⟨S1024x43x87, .f32⟩
  | .hbm, ⟨8, _⟩ => ⟨S87x3x768, .f32⟩
  | .hbm, ⟨9, _⟩ => ⟨S261x768, .f32⟩
  | .local _ .vmem, ⟨0, _⟩ => ⟨S64x43x768, .f32⟩
  | .local _ .vmem, ⟨1, _⟩ => ⟨S64x43x768, .f32⟩
  | .local _ .vmem, ⟨2, _⟩ => ⟨S64x43x1, .f32⟩
  | .local _ .vmem, ⟨3, _⟩ => ⟨S64x43x1, .f32⟩
  | .local _ .vmem, ⟨4, _⟩ => ⟨S3x87x768, .f32⟩
  | .local _ .vmem, ⟨5, _⟩ => ⟨S64x43x768, .f32⟩
  | .local _ .vmem, ⟨6, _⟩ => ⟨S64x43x768, .f32⟩
  | .local _ .vmem, ⟨7, _⟩ => ⟨S64x43x87, .f32⟩
  | .local _ .vmem, ⟨8, _⟩ => ⟨S64x43x87, .f32⟩
  | _, _ => ⟨S1024x43x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x43x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x43x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x87x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x43x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x43x87 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x43x768 : Shape := ⟨3, ![1024, 43, 768]⟩
abbrev S1024x43 : Shape := ⟨2, ![1024, 43]⟩
abbrev S3x87x768 : Shape := ⟨3, ![3, 87, 768]⟩
abbrev S768x768 : Shape := ⟨2, ![768, 768]⟩
abbrev S261x768 : Shape := ⟨2, ![261, 768]⟩
abbrev S44032x768 : Shape := ⟨2, ![44032, 768]⟩
abbrev S_ : Shape := ⟨0, ![]⟩
abbrev S261 : Shape := ⟨1, ![261]⟩
abbrev S261x1 : Shape := ⟨2, ![261, 1]⟩
abbrev S44032 : Shape := ⟨1, ![44032]⟩
abbrev S1x44032 : Shape := ⟨2, ![1, 44032]⟩
abbrev S261x44032 : Shape := ⟨2, ![261, 44032]⟩
abbrev S768x44032 : Shape := ⟨2, ![768, 44032]⟩
abbrev S3x87x1024x43 : Shape := ⟨4, ![3, 87, 1024, 43]⟩
abbrev S1024x43x3x87 : Shape := ⟨4, ![1024, 43, 3, 87]⟩
abbrev S1024x43x3 : Shape := ⟨3, ![1024, 43, 3]⟩
abbrev S1024x43x3x1 : Shape := ⟨4, ![1024, 43, 3, 1]⟩
abbrev S1024x43x87x3 : Shape := ⟨4, ![1024, 43, 87, 3]⟩
abbrev S44032x87x3 : Shape := ⟨3, ![44032, 87, 3]⟩
abbrev S44032x87 : Shape := ⟨2, ![44032, 87]⟩
abbrev S1024x43x87 : Shape := ⟨3, ![1024, 43, 87]⟩
abbrev S1024x43x1 : Shape := ⟨3, ![1024, 43, 1]⟩
abbrev S87x3x768 : Shape := ⟨3, ![87, 3, 768]⟩
abbrev S1x87x3x768 : Shape := ⟨4, ![1, 87, 3, 768]⟩
abbrev S1024x87x3x768 : Shape := ⟨4, ![1024, 87, 3, 768]⟩
abbrev S89088x3x768 : Shape := ⟨3, ![89088, 3, 768]⟩
abbrev S1024x3x87x43 : Shape := ⟨4, ![1024, 3, 87, 43]⟩
abbrev S1024x3x87 : Shape := ⟨3, ![1024, 3, 87]⟩
abbrev S1024x87x3 : Shape := ⟨3, ![1024, 87, 3]⟩
abbrev S1024x87 : Shape := ⟨2, ![1024, 87]⟩
abbrev S89088 : Shape := ⟨1, ![89088]⟩
abbrev S89088x1x1 : Shape := ⟨3, ![89088, 1, 1]⟩
abbrev S1 : Shape := ⟨1, ![1]⟩
abbrev S1x1x1 : Shape := ⟨3, ![1, 1, 1]⟩
abbrev S89088x1 : Shape := ⟨2, ![89088, 1]⟩
abbrev S89088x1x768 : Shape := ⟨3, ![89088, 1, 768]⟩
abbrev S89088x768 : Shape := ⟨2, ![89088, 768]⟩
abbrev S1024x87x768 : Shape := ⟨3, ![1024, 87, 768]⟩
abbrev S1024x0x768 : Shape := ⟨3, ![1024, 0, 768]⟩
abbrev S1024x87x43 : Shape := ⟨3, ![1024, 87, 43]⟩

abbrev nBuf : Space → Nat
  | .hbm => 118
  | .vmem => 0
  | .smem => 0
  | _ => 0

abbrev bufTy : (tb : Table) → Fin (tcTables nBuf tb) → BufTy
  | .hbm, ⟨0, _⟩ => ⟨S1024x43x768, .f32⟩
  | .hbm, ⟨1, _⟩ => ⟨S1024x43, .i1⟩
  | .hbm, ⟨2, _⟩ => ⟨S3x87x768, .f32⟩
  | .hbm, ⟨3, _⟩ => ⟨S768x768, .f32⟩
  | .hbm, ⟨4, _⟩ => ⟨S261x768, .f32⟩
  | .hbm, ⟨5, _⟩ => ⟨S44032x768, .f32⟩
  | .hbm, ⟨6, _⟩ => ⟨S261x768, .f32⟩
  | .hbm, ⟨7, _⟩ => ⟨S_, .f32⟩
  | .hbm, ⟨8, _⟩ => ⟨S261, .f32⟩
  | .hbm, ⟨9, _⟩ => ⟨S261x1, .f32⟩
  | .hbm, ⟨10, _⟩ => ⟨S44032x768, .f32⟩
  | .hbm, ⟨11, _⟩ => ⟨S_, .f32⟩
  | .hbm, ⟨12, _⟩ => ⟨S44032, .f32⟩
  | .hbm, ⟨13, _⟩ => ⟨S1x44032, .f32⟩
  | .hbm, ⟨14, _⟩ => ⟨S261x44032, .f32⟩
  | .hbm, ⟨15, _⟩ => ⟨S261x44032, .f32⟩
  | .hbm, ⟨16, _⟩ => ⟨S261x44032, .f32⟩
  | .hbm, ⟨17, _⟩ => ⟨S768x44032, .f32⟩
  | .hbm, ⟨18, _⟩ => ⟨S261x44032, .f32⟩
  | .hbm, ⟨19, _⟩ => ⟨S_, .f32⟩
  | .hbm, ⟨20, _⟩ => ⟨S261x44032, .f32⟩
  | .hbm, ⟨21, _⟩ => ⟨S261x44032, .f32⟩
  | .hbm, ⟨22, _⟩ => ⟨S261x44032, .f32⟩
  | .hbm, ⟨23, _⟩ => ⟨S_, .f32⟩
  | .hbm, ⟨24, _⟩ => ⟨S261x44032, .f32⟩
  | .hbm, ⟨25, _⟩ => ⟨S261x44032, .f32⟩
  | .hbm, ⟨26, _⟩ => ⟨S3x87x1024x43, .f32⟩
  | .hbm, ⟨27, _⟩ => ⟨S1024x43x3x87, .f32⟩
  | .hbm, ⟨28, _⟩ => ⟨S_, .f32⟩
  | .hbm, ⟨29, _⟩ => ⟨S1024x43x3, .f32⟩
  | .hbm, ⟨30, _⟩ => ⟨S1024x43x3x1, .f32⟩
  | .hbm, ⟨31, _⟩ => ⟨S_, .f32⟩
  | .hbm, ⟨32, _⟩ => ⟨S1024x43x3x1, .f32⟩
  | .hbm, ⟨33, _⟩ => ⟨S1024x43x3x1, .f32⟩
  | .hbm, ⟨34, _⟩ => ⟨S1024x43x3x87, .f32⟩
  | .hbm, ⟨35, _⟩ => ⟨S1024x43x3x87, .f32⟩
  | .hbm, ⟨36, _⟩ => ⟨S1024x43x87x3, .f32⟩
  | .hbm, ⟨37, _⟩ => ⟨S44032x87x3, .f32⟩
  | .hbm, ⟨38, _⟩ => ⟨S_, .f32⟩
  | .hbm, ⟨39, _⟩ => ⟨S44032x87x3, .f32⟩
  | .hbm, ⟨40, _⟩ => ⟨S44032x87x3, .f32⟩
  | .hbm, ⟨41, _⟩ => ⟨S_, .f32⟩
  | .hbm, ⟨42, _⟩ => ⟨S44032x87x3, .f32⟩
  | .hbm, ⟨43, _⟩ => ⟨S44032x87x3, .f32⟩
  | .hbm, ⟨44, _⟩ => ⟨S_, .f32⟩
  | .hbm, ⟨45, _⟩ => ⟨S44032x87, .f32⟩
  | .hbm, ⟨46, _⟩ => ⟨S1024x43x87, .f32⟩
  | .hbm, ⟨47, _⟩ => ⟨S1024x43, .f32⟩
  | .hbm, ⟨48, _⟩ => ⟨S1024x43x1, .f32⟩
  | .hbm, ⟨49, _⟩ => ⟨S1024x43x87, .f32⟩
  | .hbm, ⟨50, _⟩ => ⟨S1024x43x87, .f32⟩
  | .hbm, ⟨51, _⟩ => ⟨S_, .f32⟩
  | .hbm, ⟨52, _⟩ => ⟨S1024x43x87, .f32⟩
  | .hbm, ⟨53, _⟩ => ⟨S1024x43x87, .f32⟩
  | .hbm, ⟨54, _⟩ => ⟨S_, .f32⟩
  | .hbm, ⟨55, _⟩ => ⟨S1024x43, .f32⟩
  | .hbm, ⟨56, _⟩ => ⟨S_, .f32⟩
  | .hbm, ⟨57, _⟩ => ⟨S1024x43, .f32⟩
  | .hbm, ⟨58, _⟩ => ⟨S1024x43, .f32⟩
  | .hbm, ⟨59, _⟩ => ⟨S1024x43x1, .f32⟩
  | .hbm, ⟨60, _⟩ => ⟨S1024x43x87, .f32⟩
  | .hbm, ⟨61, _⟩ => ⟨S1024x43x87, .f32⟩
  | .hbm, ⟨62, _⟩ => ⟨S1024x43x87, .f32⟩
  | .hbm, ⟨63, _⟩ => ⟨S_, .f32⟩
  | .hbm, ⟨64, _⟩ => ⟨S1024x43, .f32⟩
  | .hbm, ⟨65, _⟩ => ⟨S1024x43x1, .f32⟩
  | .hbm, ⟨66, _⟩ => ⟨S1024x43x87, .f32⟩
  | .hbm, ⟨67, _⟩ => ⟨S1024x43x87, .f32⟩
  | .hbm, ⟨68, _⟩ => ⟨S87x3x768, .f32⟩
  | .hbm, ⟨69, _⟩ => ⟨S1x87x3x768, .f32⟩
  | .hbm, ⟨70, _⟩ => ⟨S1024x87x3x768, .f32⟩
  | .hbm, ⟨71, _⟩ => ⟨S89088x3x768, .f32⟩
  | .hbm, ⟨72, _⟩ => ⟨S1024x43x87x3, .f32⟩
  | .hbm, ⟨73, _⟩ => ⟨S1024x3x87x43, .f32⟩
  | .hbm, ⟨74, _⟩ => ⟨S_, .f32⟩
  | .hbm, ⟨75, _⟩ => ⟨S1024x3x87, .f32⟩
  | .hbm, ⟨76, _⟩ => ⟨S1024x87x3, .f32⟩
  | .hbm, ⟨77, _⟩ => ⟨S1024x87x3, .i32⟩
  | .hbm, ⟨78, _⟩ => ⟨S_, .f32⟩
  | .hbm, ⟨79, _⟩ => ⟨S_, .i32⟩
  | .hbm, ⟨80, _⟩ => ⟨S1024x87, .f32⟩
  | .hbm, ⟨81, _⟩ => ⟨S1024x87, .i32⟩
  | .hbm, ⟨82, _⟩ => ⟨S89088, .i32⟩
  | .hbm, ⟨83, _⟩ => ⟨S89088x1x1, .i32⟩
  | .hbm, ⟨84, _⟩ => ⟨S_, .i32⟩
  | .hbm, ⟨85, _⟩ => ⟨S89088x1x1, .i32⟩
  | .hbm, ⟨86, _⟩ => ⟨S89088x1x1, .i1⟩
  | .hbm, ⟨87, _⟩ => ⟨S_, .i32⟩
  | .hbm, ⟨88, _⟩ => ⟨S89088x1x1, .i32⟩
  | .hbm, ⟨89, _⟩ => ⟨S89088x1x1, .i32⟩
  | .hbm, ⟨90, _⟩ => ⟨S89088x1x1, .i32⟩
  | .hbm, ⟨91, _⟩ => ⟨S1, .i32⟩
  | .hbm, ⟨92, _⟩ => ⟨S_, .i32⟩
  | .hbm, ⟨93, _⟩ => ⟨S89088x1x1, .i32⟩
  | .hbm, ⟨94, _⟩ => ⟨S89088x1x1, .i1⟩
  | .hbm, ⟨95, _⟩ => ⟨S1x1x1, .i32⟩
  | .hbm, ⟨96, _⟩ => ⟨S89088x1x1, .i32⟩
  | .hbm, ⟨97, _⟩ => ⟨S89088x1x1, .i1⟩
  | .hbm, ⟨98, _⟩ => ⟨S89088x1x1, .i1⟩
  | .hbm, ⟨99, _⟩ => ⟨S_, .i1⟩
  | .hbm, ⟨100, _⟩ => ⟨S89088x1, .i1⟩
  | .hbm, ⟨101, _⟩ => ⟨S89088x1x768, .f32⟩
  | .hbm, ⟨102, _⟩ => ⟨S89088x1x768, .i1⟩
  | .hbm, ⟨103, _⟩ => ⟨S_, .f32⟩
  | .hbm, ⟨104, _⟩ => ⟨S89088x1x768, .f32⟩
  | .hbm, ⟨105, _⟩ => ⟨S89088x1x768, .f32⟩
  | .hbm, ⟨106, _⟩ => ⟨S89088x768, .f32⟩
  | .hbm, ⟨107, _⟩ => ⟨S1024x87x768, .f32⟩
  | .hbm, ⟨108, _⟩ => ⟨S1024x43x768, .f32⟩
  | .hbm, ⟨109, _⟩ => ⟨S_, .f32⟩
  | .hbm, ⟨110, _⟩ => ⟨S1024x0x768, .f32⟩
  | .hbm, ⟨111, _⟩ => ⟨S1024x43x768, .f32⟩
  | .hbm, ⟨112, _⟩ => ⟨S1024x87x43, .f32⟩
  | .hbm, ⟨113, _⟩ => ⟨S1024x87x768, .f32⟩
  | .hbm, ⟨114, _⟩ => ⟨S768x768, .f32⟩
  | .hbm, ⟨115, _⟩ => ⟨S1024x87x768, .f32⟩
  | .hbm, ⟨116, _⟩ => ⟨S87x3x768, .f32⟩
  | .hbm, ⟨117, _⟩ => ⟨S261x768, .f32⟩
  | _, _ => ⟨S1024x43x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_call0_v0 : Ref sig .tc := ⟨.hbm, 77, rfl⟩
abbrev main_call0_cst : Ref sig .tc := ⟨.hbm, 78, rfl⟩
abbrev main_call0_c : Ref sig .tc := ⟨.hbm, 79, rfl⟩
abbrev main_call0_v1_0 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_c : Ref sig .tc := ⟨.hbm, 84, rfl⟩
abbrev main_call1_v0 : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_c_1 : Ref sig .tc := ⟨.hbm, 91, rfl⟩
abbrev main_call1_c_2 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_c_3 : Ref sig .tc := ⟨.hbm, 99, rfl⟩
abbrev main_call1_v11 : Ref sig .tc := ⟨.hbm, 100, rfl⟩
abbrev main_call1_v12 : Ref sig .tc := ⟨.hbm, 101, rfl⟩
abbrev main_call1_v13 : Ref sig .tc := ⟨.hbm, 102, rfl⟩
abbrev main_call1_cst : Ref sig .tc := ⟨.hbm, 103, rfl⟩
abbrev main_call1_v14 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_13 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩

abbrev nD : Nat := 1
abbrev τ : Topo := Topo.v7x

variable {F : FTy → Type} [FloatOps F]
-- ==== Proof.Stack.lean ====
module

public import proofs.«01_k».proof.Defs
public import proofs.«01_k».proof.Proof.Gen.KernelIdeal.Frame
public import Idealize.ShloMosaic.Lib.Pointwise
public import Idealize.ShloMosaic.Lib.Pipeline.Value
public import Idealize.ShloMosaic.Lib.Pipeline.ValueKit.Tiles
public import Idealize.ShloMosaic.Lib.Tactic

@[expose] public section
set_option maxRecDepth 16384
noncomputable section
namespace Cert.Proof
open Idealize.ShloMosaic Idealize.SL.Sem Cert.KernelIdeal Cert.KernelIdeal.Gen

theorem inb_x (b : Fin 64) : ∀ a, (![(b : ℕ), 0, 0] : Fin 3 → ℕ) a + S1x43x768.size a ≤ S64x43x768.size a := by
  revert b; decide

theorem inb_mask (b : Fin 64) : ∀ a, (![(b : ℕ), 0, 0] : Fin 3 → ℕ) a + S1x43x1.size a ≤ S64x43x1.size a := by
  revert b; decide

theorem slices_group (b : Fin 64) : S2752x87.Slices ![43 * (b : ℕ), 0] S43x87 := by
  revert b; decide

/-- Batch row `b` of the block of `x`, as a matrix. -/
def xPiece (x0 : Vec Ideal S64x43x768 .f32) (b : Fin 64) : FVec Ideal S43x768 .f32 :=
  shapeCast S43x768 (View.ld x0 (Rect.unit (s := S64x43x768) ![(b : ℕ), 0, 0] S1x43x768.size (inb_x b))) shapeCasts_S1x43x768_S43x768

theorem xPiece_at (x0 : Vec Ideal S64x43x768 .f32) (b : Fin 64) (n : Fin 43) (d : Fin 768) :
    xPiece x0 b (ix2 n d) = x0 (ix3 b n d) := by
  refine (shapeCast_dropUnit_apply ![43, 768] _ _ (ix2 n d)).trans (View.ld_unit_apply_of _ _ _ _ _ _ ?_)
  intro a
  fin_cases a
  · exact (Nat.add_zero _).symm
  · exact (Nat.zero_add _).symm
  · exact (Nat.zero_add _).symm

/-- Batch row `b` of the block of the mask, as a column. -/
def maskPiece (x1 : Vec Ideal S64x43x1 .f32) (b : Fin 64) : FVec Ideal S43x1 .f32 :=
  shapeCast S43x1 (View.ld x1 (Rect.unit (s := S64x43x1) ![(b : ℕ), 0, 0] S1x43x1.size (inb_mask b))) shapeCasts_S1x43x1_S43x1

/-- The 43 rows of `A` that belong to batch row `b`, reduced to their largest entry in each column. -/
def topPiece (A : FVec Ideal S2752x87 .f32) (b : Fin 64) : FVec Ideal S1x87 .f32 :=
  shapeCast S1x87 (multiReduction .maximumf [0] S87 (extractStridedSlice S43x87 ![43 * (b : ℕ), 0] A (slices_group b))
    0xFF800000#32 reduces_S43x87_S87 (.inl rfl) rfl) shapeCasts_S87_S1x87

theorem cat_x (f : Fin 64 → FVec Ideal S43x768 .f32) :
    Shape.Concatenates ((List.ofFn fun b : Fin 64 => (⟨S43x768, f b⟩ : (s : Shape) × (s.Idx → Ideal .f32))).map (·.1)) S2752x768 0 := by
  rw [List.map_ofFn]
  show Shape.Concatenates (List.ofFn fun _ : Fin 64 => S43x768) _ _
  decide

theorem cat_mask (f : Fin 64 → FVec Ideal S43x1 .f32) :
    Shape.Concatenates ((List.ofFn fun b : Fin 64 => (⟨S43x1, f b⟩ : (s : Shape) × (s.Idx → Ideal .f32))).map (·.1)) S2752x1 0 := by
  rw [List.map_ofFn]
  show Shape.Concatenates (List.ofFn fun _ : Fin 64 => S43x1) _ _
  decide

theorem cat_top (f : Fin 64 → FVec Ideal S1x87 .f32) :
    Shape.Concatenates ((List.ofFn fun b : Fin 64 => (⟨S1x87, f b⟩ : (s : Shape) × (s.Idx → Ideal .f32))).map (·.1)) S64x87 0 := by
  rw [List.map_ofFn]
  show Shape.Concatenates (List.ofFn fun _ : Fin 64 => S1x87) _ _
  decide

/-- The block of the mask as one column of 2752 rows. -/
def maskRows (x1 : Vec Ideal S64x43x1 .f32) : FVec Ideal S2752x1 .f32 :=
  concatenate S2752x1 0 (List.ofFn fun b : Fin 64 => ⟨S43x1, maskPiece x1 b⟩) (cat_mask _)

/-- The largest entries of every group of 43 rows of `A`: one row for each batch row. -/
def tops (A : FVec Ideal S2752x87 .f32) : FVec Ideal S64x87 .f32 :=
  concatenate S64x87 0 (List.ofFn fun b : Fin 64 => ⟨S1x87, topPiece A b⟩) (cat_top _)

section
variable (x0 : Vec Ideal S64x43x768 .f32) (x1 : Vec Ideal S64x43x1 .f32) (x2 : Vec Ideal S3x87x768 .f32)

theorem stack_x : k0_pay466 x0 x1 x2 = concatenate S2752x768 0 (List.ofFn fun b : Fin 64 => ⟨S43x768, xPiece x0 b⟩) (cat_x _) := rfl

theorem stack_s : k0_pay471 x0 x1 x2 = k0_pay127 (k0_pay466 x0 x1 x2) (maskRows x1) (k0_pay467 x0 x1 x2) (k0_pay468 x0 x1 x2)
    (k0_pay469 x0 x1 x2) (View.ld x2 r0_130) := rfl

theorem stack_top0 : k0_pay472 x0 x1 x2 = tops (k0_pay468 x0 x1 x2) := rfl
theorem stack_top1 : k0_pay473 x0 x1 x2 = tops (k0_pay469 x0 x1 x2) := rfl

/-- Row `43 * b + n` of the stacked block of `x` is row `n` of batch row `b`. -/
theorem rows_at (r : Fin 2752) (b : Fin 64) (n : Fin 43) (hr : (r : ℕ) = 43 * b + n) (d : Fin 768) :
    k0_pay466 x0 x1 x2 (ix2 r d) = x0 (ix3 b n d) := by
  rw [stack_x, concatenate_ofFn_apply (t := S2752x768) 0 (xPiece x0) _ rfl 43 rfl (ix2 r d) b
    (by show (r : ℕ) / 43 = b; omega) (ix2 n d) (by show (n : ℕ) = r % 43; omega)
    (by intro a ha; fin_cases a <;> first | rfl | exact absurd rfl ha)]
  exact xPiece_at x0 b n d

theorem maskRows_at (r : Fin 2752) (b : Fin 64) (n : Fin 43) (hr : (r : ℕ) = 43 * b + n) :
    maskRows x1 (ix2 r 0) = x1 (ix3 b n 0) := by
  rw [maskRows, concatenate_ofFn_apply (t := S2752x1) 0 (maskPiece x1) _ rfl 43 rfl (ix2 r 0) b
    (by show (r : ℕ) / 43 = b; omega) (ix2 n 0) (by show (n : ℕ) = r % 43; omega)
    (by intro a ha; fin_cases a <;> first | rfl | exact absurd rfl ha)]
  pointwise [maskPiece]

theorem tops_at (A : FVec Ideal S2752x87 .f32) (b : Fin 64) (k : Fin 87) :
    tops A (ix2 b k) = Finset.univ.fold max (Ideal.ofBits .f32 0xFF800000#32) fun n : Fin 43 => A (ix2 ⟨43 * b + n, by omega⟩ k) := by
  rw [tops, concatenate_ofFn_apply (t := S64x87) 0 (topPiece A) _ rfl 1 rfl (ix2 b k) b
    (by show (b : ℕ) / 1 = b; omega) (ix2 0 k) (by show 0 = (b : ℕ) % 1; omega)
    (by intro a ha; fin_cases a <;> first | rfl | exact absurd rfl ha)]
  pointwise [topPiece]
end
end Cert.Proof
end
-- ==== Proof.Picks.lean ====
module
public import proofs.«01_k».proof.Proof.Stack
@[expose] public section
set_option maxRecDepth 16384
noncomputable section
namespace Cert.Proof
open Idealize.ShloMosaic Idealize.SL.Sem Cert.KernelIdeal Cert.KernelIdeal.Gen
section
variable (x0 : Vec Ideal S64x43x768 .f32) (x1 : Vec Ideal S64x43x1 .f32) (x2 : Vec Ideal S3x87x768 .f32)

/-- Where the third of three arrays of scores is larger than both others. -/
def third (a0 a1 a2 : FVec Ideal S64x87 .f32) : IVec S64x87 1 := cmpf .ogt a2 (maximumf a0 a1)

/-- Where the second is larger than the first and the third was not taken. -/
def second (a0 a1 a2 : FVec Ideal S64x87 .f32) : IVec S64x87 1 :=
  andi (cmpf .ogt a1 a0) (xori (third a0 a1 a2) (constantI S64x87 1 1#1))

/-- Where neither the second nor the third was taken. -/
def first (a0 a1 a2 : FVec Ideal S64x87 .f32) : IVec S64x87 1 :=
  xori (ori (second a0 a1 a2) (third a0 a1 a2)) (constantI S64x87 1 1#1)

theorem pay533_eq : k0_pay533 x0 x1 x2 = k0_pay321 (k0_pay471 x0 x1 x2)
    (third (tops (k0_pay468 x0 x1 x2)) (tops (k0_pay469 x0 x1 x2)) (tops (k0_pay470 x0 x1 x2)))
    (k0_pay528 x0 x1 x2) 43#32 k0_pay316 k0_pay317 k0_pay318 := by
  rfl
theorem pay532_eq : k0_pay532 x0 x1 x2 = k0_pay320 (k0_pay471 x0 x1 x2)
    (second (tops (k0_pay468 x0 x1 x2)) (tops (k0_pay469 x0 x1 x2)) (tops (k0_pay470 x0 x1 x2)))
    (first (tops (k0_pay468 x0 x1 x2)) (tops (k0_pay469 x0 x1 x2)) (tops (k0_pay470 x0 x1 x2)))
    (k0_pay528 x0 x1 x2) 43#32 k0_pay316 k0_pay317 k0_pay318 (View.ld x2 r0_128) (View.ld x2 r0_129) := by
  rfl
end
end Cert.Proof
end
-- ==== Proof.Expand.lean ====
module

public import proofs.«01_k».proof.Proof.Picks
public import Idealize.ShloMosaic.Lib.Pointwise

@[expose] public section
set_option maxRecDepth 16384
noncomputable section
namespace Cert.Proof
open Idealize.ShloMosaic Idealize.SL.Sem Cert.KernelIdeal Cert.KernelIdeal.Gen

/-- The word the kernel computes for the batch row that row `r` belongs to: a division rounded down. -/
def groupWord (r : ℕ) : BitVec 32 :=
  Scalar.select
    (IntOp.andi
      (IntOp.cmpi CmpIPredicate.ne
        (IntOp.subi (BitVec.setWidth 32 (IntOp.cmpi CmpIPredicate.sgt (BitVec.ofNat 32 r) 0#32))
          (BitVec.setWidth 32 (IntOp.cmpi CmpIPredicate.slt (BitVec.ofNat 32 r) 0#32)))
        (Scalar.subi (Scalar.extui (Scalar.cmpi CmpIPredicate.sgt 43#32 0#32))
          (Scalar.extui (Scalar.cmpi CmpIPredicate.slt 43#32 0#32))))
      (IntOp.cmpi CmpIPredicate.ne (IntOp.remsi ArithUnit.vector (BitVec.ofNat 32 r) 43#32) 0#32))
    (IntOp.subi (IntOp.divsi ArithUnit.vector (BitVec.ofNat 32 r) 43#32) 1#32)
    (IntOp.divsi ArithUnit.vector (BitVec.ofNat 32 r) 43#32)

/-- It is the quotient by 43. -/
theorem groupWord_eq : ∀ r : Fin 2752, groupWord r = BitVec.ofNat 32 ((r : ℕ) / 43) := by
  decide +kernel

/-- A truth value as a number. -/
def bit (p : BitVec 1) : EReal := FloatOps.sitofp (F := Ideal) FTy.f32 (BitVec.setWidth 32 p)

theorem bit_one : bit 1#1 = 1 := by
  show (((BitVec.setWidth 32 1#1).toInt : ℝ) : EReal) = 1
  have e : (BitVec.setWidth 32 1#1).toInt = 1 := by decide
  rw [e]; simp

theorem bit_zero : bit 0#1 = 0 := by
  show (((BitVec.setWidth 32 0#1).toInt : ℝ) : EReal) = 0
  have e : (BitVec.setWidth 32 0#1).toInt = 0 := by decide
  rw [e]; simp

/-- The matrix that copies a row for each batch row to each of its 43 rows. -/
def copies : FVec Ideal S2752x64 .f32 :=
  k0_pay319 (iota .tc S2752x64 32 [0] iota_S2752x64_d0_w32) 43#32 k0_pay316 k0_pay317 k0_pay318

/-- It has a one where the row belongs to the batch row, and zeros elsewhere. -/
theorem copies_at (r : Fin 2752) (b : Fin 64) : copies (ix2 r b) = if (r : ℕ) / 43 = b then 1 else 0 := by
  have e : copies (ix2 r b) = bit (IntOp.cmpi CmpIPredicate.eq (groupWord r) (BitVec.ofNat 32 b)) := by
    pointwise [copies, k0_pay319, k0_pay316, k0_pay317, k0_pay318]
    rfl
  rw [e, groupWord_eq]
  by_cases h : (r : ℕ) / 43 = b
  · rw [if_pos h, h]
    simp [IntOp.cmpi, bit_one]
  · rw [if_neg h]
    have hne : BitVec.ofNat 32 ((r : ℕ) / 43) ≠ BitVec.ofNat 32 b := by
      intro hh
      have := congrArg BitVec.toNat hh
      simp only [BitVec.toNat_ofNat] at this
      omega
    have hb : (BitVec.ofNat 32 ((r : ℕ) / 43) == BitVec.ofNat 32 (b : ℕ)) = false := beq_eq_false_iff_ne.mpr hne
    unfold IntOp.cmpi
    rw [hb]
    exact bit_zero

/-- Multiplying by the copying matrix picks the entry of the row's batch row. -/
theorem copies_sum (r : Fin 2752) (b : Fin 64) (n : Fin 43) (hr : (r : ℕ) = 43 * b + n) (f : Fin 64 → EReal) :
    ∑ j, copies (ix2 r j) * f j = f b := by
  rw [Finset.sum_eq_single b]
  · rw [copies_at, if_pos (by omega), one_mul]
  · intro j _ hj
    rw [copies_at, if_neg, zero_mul]
    intro h
    exact hj (Fin.ext (by omega))
  · intro h
    exact absurd (Finset.mem_univ b) h

end Cert.Proof
end
-- ==== Proof.Model.lean ====
module

public import Idealize.ShloMosaic.Lib.Pointwise

@[expose] public section
noncomputable section
namespace Cert.Proof
open Idealize.ShloMosaic

/-- The squared distance from a row `x` to centre `k` of a head, cut off at zero. -/
def sqDist (x : Fin 768 → EReal) (c : Fin 87 → Fin 768 → EReal) (k : Fin 87) : EReal :=
  max (∑ d, x d * x d + ∑ d, c k d * c k d - Ideal.ofBits .f32 0x40000000#32 * ∑ d, x d * c k d) 0

/-- One over the squared distance, measured against the mean over the 87 centres. -/
def closeness (x : Fin 768 → EReal) (c : Fin 87 → Fin 768 → EReal) (k : Fin 87) : EReal :=
  Ideal.div 1 (Ideal.div (Ideal.div (sqDist x c k) (Ideal.div (∑ j, sqDist x c j) (Ideal.ofBits .f32 0x42AE0000#32))) 1)

/-- The score of centre `k`: the closest of the three heads, masked and scaled by five. -/
def score (x : Fin 768 → EReal) (c : Fin 3 → Fin 87 → Fin 768 → EReal) (m : EReal) (k : Fin 87) : EReal :=
  max (max (closeness x (c 0) k) (closeness x (c 1) k)) (closeness x (c 2) k) * m * Ideal.ofBits .f32 0x40A00000#32

/-- The largest of 87 scores. -/
def peak (s : Fin 87 → EReal) : EReal := Finset.univ.fold max (Ideal.ofBits .f32 0xFF800000#32) s

/-- The assignment weight of centre `k`: the softmax of the scores. -/
def weight (x : Fin 768 → EReal) (c : Fin 3 → Fin 87 → Fin 768 → EReal) (m : EReal) (k : Fin 87) : EReal :=
  Ideal.div (Ideal.exp (score x c m k - peak (score x c m))) (∑ j, Ideal.exp (score x c m j - peak (score x c m)))

/-- The best closeness any of the 43 rows has to centre `k` of a head. -/
def best (x : Fin 43 → Fin 768 → EReal) (c : Fin 87 → Fin 768 → EReal) (k : Fin 87) : EReal :=
  Finset.univ.fold max (Ideal.ofBits .f32 0xFF800000#32) fun n => closeness (x n) c k

/-- The position of the first largest of three numbers. -/
def choice (a b c : EReal) : Fin 3 := if max a b < c then 2 else if a < b then 1 else 0

/-- The head chosen for centre `k`. -/
def head (x : Fin 43 → Fin 768 → EReal) (c : Fin 3 → Fin 87 → Fin 768 → EReal) (k : Fin 87) : Fin 3 :=
  choice (best x (c 0) k) (best x (c 1) k) (best x (c 2) k)

/-- Feature `d` of row `n`: the weighted sum of the chosen centres. -/
def feature (x : Fin 43 → Fin 768 → EReal) (c : Fin 3 → Fin 87 → Fin 768 → EReal) (m : EReal) (n : Fin 43) (d : Fin 768) : EReal :=
  ∑ k, weight (x n) c m k * c (head x c k) k d

end Cert.Proof
end
-- ==== Proof.Block.lean ====
module

public import proofs.«01_k».proof.Proof.Stack
public import proofs.«01_k».proof.Proof.Model

@[expose] public section
set_option maxRecDepth 16384
noncomputable section
namespace Cert.Proof
open Idealize.ShloMosaic Idealize.SL.Sem Cert.KernelIdeal Cert.KernelIdeal.Gen

/-- Row `r` of a matrix of 2752 rows. -/
def rowOf (A : FVec Ideal S2752x768 .f32) (r : Fin 2752) : Fin 768 → EReal := fun d => A (ix2 r d)

/-- The 87 centres of a head held as a slab with a leading axis of one. -/
def slab (K : Vec Ideal S1x87x768 .f32) : Fin 87 → Fin 768 → EReal := fun k d => K (ix3 0 k d)

theorem close_first (A : FVec Ideal S2752x768 .f32) (K : Vec Ideal S1x87x768 .f32) (r : Fin 2752) (k : Fin 87) :
    k0_pay124 (k0_pay121 A K) (k0_pay122 A) (k0_pay123 K) (ix2 r k) = closeness (rowOf A r) (slab K) k := by
  pointwise [k0_pay124, k0_pay121, k0_pay122, k0_pay123, k0_pay119, k0_pay120]
  rfl

theorem close_second (A : FVec Ideal S2752x768 .f32) (K : Vec Ideal S1x87x768 .f32) (r : Fin 2752) (k : Fin 87) :
    k0_pay125 A (k0_pay119 A) K (ix2 r k) = closeness (rowOf A r) (slab K) k := by
  pointwise [k0_pay125, k0_pay119]
  rfl

theorem close_third (A : FVec Ideal S2752x768 .f32) (K : Vec Ideal S1x87x768 .f32) (r : Fin 2752) (k : Fin 87) :
    k0_pay126 A (k0_pay119 A) K (ix2 r k) = closeness (rowOf A r) (slab K) k := by
  pointwise [k0_pay126, k0_pay119]
  rfl

/-- The softmax of three arrays of closeness, the third still to be computed. -/
theorem soft (A : FVec Ideal S2752x768 .f32) (N : FVec Ideal S2752x1 .f32) (M : FVec Ideal S2752x1 .f32) (K : Vec Ideal S1x87x768 .f32)
    (C0 C1 : FVec Ideal S2752x87 .f32) (r : Fin 2752) (k : Fin 87) (s : Fin 87 → EReal)
    (hs : ∀ j, max (max (C0 (ix2 r j)) (C1 (ix2 r j))) (k0_pay126 A N K (ix2 r j)) * M (ix2 r 0) * Ideal.ofBits .f32 0x40A00000#32 = s j) :
    k0_pay127 A M N C0 C1 K (ix2 r k) = Ideal.div (Ideal.exp (s k - peak s)) (∑ j, Ideal.exp (s j - peak s)) := by
  obtain rfl : (fun j => max (max (C0 (ix2 r j)) (C1 (ix2 r j))) (k0_pay126 A N K (ix2 r j)) * M (ix2 r 0) * Ideal.ofBits .f32 0x40A00000#32) = s := funext hs
  clear hs
  generalize hC : k0_pay126 A N K = C2
  unfold k0_pay127
  rw [hC]
  pointwise []
  rfl
end Cert.Proof
end
-- ==== Proof.Features.lean ====
module

public import proofs.«01_k».proof.Proof.Expand
public import proofs.«01_k».proof.Proof.Block

@[expose] public section
set_option maxRecDepth 16384
noncomputable section
namespace Cert.Proof
open Idealize.ShloMosaic Idealize.SL.Sem Cert.KernelIdeal Cert.KernelIdeal.Gen

/-- The first two heads' share of a row's features, weights masked by the choices. -/
theorem two_heads (W : FVec Ideal S2752x87 .f32) (p q : IVec S64x87 1) (K0 K1 : Vec Ideal S1x87x768 .f32)
    (r : Fin 2752) (b : Fin 64) (n : Fin 43) (hr : (r : ℕ) = 43 * b + n) (d : Fin 768) :
    k0_pay320 W p q (iota .tc S2752x64 32 [0] iota_S2752x64_d0_w32) 43#32 k0_pay316 k0_pay317 k0_pay318 K0 K1 (ix2 r d)
      = ∑ k, W (ix2 r k) * bit (q (ix2 b k)) * slab K0 k d + ∑ k, W (ix2 r k) * bit (p (ix2 b k)) * slab K1 k d := by
  generalize h : k0_pay319 (F := Ideal) (iota .tc S2752x64 32 [0] iota_S2752x64_d0_w32) 43#32 k0_pay316 k0_pay317 k0_pay318 = E
  unfold k0_pay320
  rw [h]
  pointwise []
  obtain rfl : copies = E := h
  refine congrArg₂ _ (Finset.sum_congr rfl fun k _ => ?_) (Finset.sum_congr rfl fun k _ => ?_)
  · exact congrArg (fun z => W (ix2 r k) * z * slab K0 k d) (copies_sum r b n hr fun j => bit (q (ix2 j k)))
  · exact congrArg (fun z => W (ix2 r k) * z * slab K1 k d) (copies_sum r b n hr fun j => bit (p (ix2 j k)))

/-- The third head's masked weights. -/
theorem third_weights (W : FVec Ideal S2752x87 .f32) (p : IVec S64x87 1)
    (r : Fin 2752) (b : Fin 64) (n : Fin 43) (hr : (r : ℕ) = 43 * b + n) (k : Fin 87) :
    k0_pay321 W p (iota .tc S2752x64 32 [0] iota_S2752x64_d0_w32) 43#32 k0_pay316 k0_pay317 k0_pay318 (ix2 r k)
      = W (ix2 r k) * bit (p (ix2 b k)) := by
  generalize h : k0_pay319 (F := Ideal) (iota .tc S2752x64 32 [0] iota_S2752x64_d0_w32) 43#32 k0_pay316 k0_pay317 k0_pay318 = E
  unfold k0_pay321
  rw [h]
  pointwise []
  obtain rfl : copies = E := h
  exact congrArg (fun z => W (ix2 r k) * z) (copies_sum r b n hr fun j => bit (p (ix2 j k)))

/-- All three heads together. -/
theorem three_heads (A : FVec Ideal S2752x768 .f32) (W : FVec Ideal S2752x87 .f32) (K : Vec Ideal S1x87x768 .f32)
    (r : Fin 2752) (d : Fin 768) :
    k0_pay322 A W K (ix2 r d) = A (ix2 r d) + ∑ k, W (ix2 r k) * slab K k d := by
  pointwise [k0_pay322]
  rfl

/-- Exactly the chosen head's centre survives the three masked products. -/
theorem chosen (a0 a1 a2 : FVec Ideal S64x87 .f32) (b : Fin 64) (k : Fin 87) (w : EReal) (c : Fin 3 → EReal) :
    w * bit (first a0 a1 a2 (ix2 b k)) * c 0 + w * bit (second a0 a1 a2 (ix2 b k)) * c 1 + w * bit (third a0 a1 a2 (ix2 b k)) * c 2
      = w * c (choice (a0 (ix2 b k)) (a1 (ix2 b k)) (a2 (ix2 b k))) := by
  have h3 : third a0 a1 a2 (ix2 b k) = BitVec.ofBool (decide (max (a0 (ix2 b k)) (a1 (ix2 b k)) < a2 (ix2 b k))) := by
    pointwise [third]
  have h2 : second a0 a1 a2 (ix2 b k) = IntOp.andi (BitVec.ofBool (decide (a0 (ix2 b k) < a1 (ix2 b k))))
      (IntOp.xori (third a0 a1 a2 (ix2 b k)) 1#1) := rfl
  have h1 : first a0 a1 a2 (ix2 b k) = IntOp.xori (IntOp.ori (second a0 a1 a2 (ix2 b k)) (third a0 a1 a2 (ix2 b k))) 1#1 := rfl
  unfold choice
  by_cases hc : max (a0 (ix2 b k)) (a1 (ix2 b k)) < a2 (ix2 b k)
  · have e3 : third a0 a1 a2 (ix2 b k) = 1#1 := by rw [h3, decide_eq_true hc]; rfl
    have e2 : second a0 a1 a2 (ix2 b k) = 0#1 := by
      rw [h2, e3]; cases decide (a0 (ix2 b k) < a1 (ix2 b k)) <;> rfl
    have e1 : first a0 a1 a2 (ix2 b k) = 0#1 := by rw [h1, e2, e3]; rfl
    rw [e1, e2, e3, bit_zero, bit_one, if_pos hc, mul_zero, zero_mul, zero_mul, zero_add, zero_add, mul_one]
  · have e3 : third a0 a1 a2 (ix2 b k) = 0#1 := by rw [h3, decide_eq_false hc]; rfl
    rw [if_neg hc]
    by_cases hb : a0 (ix2 b k) < a1 (ix2 b k)
    · have e2 : second a0 a1 a2 (ix2 b k) = 1#1 := by rw [h2, e3, decide_eq_true hb]; rfl
      have e1 : first a0 a1 a2 (ix2 b k) = 0#1 := by rw [h1, e2, e3]; rfl
      rw [e1, e2, e3, bit_zero, bit_one, if_pos hb, mul_zero, zero_mul, zero_mul, zero_add, add_zero, mul_one]
    · have e2 : second a0 a1 a2 (ix2 b k) = 0#1 := by rw [h2, e3, decide_eq_false hb]; rfl
      have e1 : first a0 a1 a2 (ix2 b k) = 1#1 := by rw [h1, e2, e3]; rfl
      rw [e1, e2, e3, bit_zero, bit_one, if_neg hb, mul_zero, zero_mul, zero_mul, add_zero, add_zero, mul_one]

section
variable (x0 : Vec Ideal S64x43x768 .f32) (x1 : Vec Ideal S64x43x1 .f32) (x2 : Vec Ideal S3x87x768 .f32)

/-- The rows of batch row `b` of the block of `x`. -/
def blockRows (b : Fin 64) : Fin 43 → Fin 768 → EReal := fun n d => x0 (ix3 b n d)

/-- The three heads' centres. -/
def centres : Fin 3 → Fin 87 → Fin 768 → EReal := fun h k d => x2 (ix3 h k d)

theorem slab_first : slab (View.ld x2 r0_128) = centres x2 0 := by
  funext k d
  refine View.ld_unit_apply_of _ _ _ _ _ _ ?_
  intro a; fin_cases a
  · rfl
  · exact (Nat.zero_add _).symm
  · exact (Nat.zero_add _).symm
theorem slab_second : slab (View.ld x2 r0_129) = centres x2 1 := by
  funext k d
  refine View.ld_unit_apply_of _ _ _ _ _ _ ?_
  intro a; fin_cases a
  · rfl
  · exact (Nat.zero_add _).symm
  · exact (Nat.zero_add _).symm
theorem slab_third : slab (View.ld x2 r0_130) = centres x2 2 := by
  funext k d
  refine View.ld_unit_apply_of _ _ _ _ _ _ ?_
  intro a; fin_cases a
  · rfl
  · exact (Nat.zero_add _).symm
  · exact (Nat.zero_add _).symm

theorem rowOf_rows (r : Fin 2752) (b : Fin 64) (n : Fin 43) (hr : (r : ℕ) = 43 * b + n) :
    rowOf (k0_pay466 x0 x1 x2) r = blockRows x0 b n := funext fun d => rows_at x0 x1 x2 r b n hr d

variable (r : Fin 2752) (b : Fin 64) (n : Fin 43) (hr : (r : ℕ) = 43 * b + n)
include hr

theorem near0 (k : Fin 87) : k0_pay468 x0 x1 x2 (ix2 r k) = closeness (blockRows x0 b n) (centres x2 0) k := by
  rw [← rowOf_rows x0 x1 x2 r b n hr, ← slab_first x2]
  exact close_first _ _ r k
theorem near1 (k : Fin 87) : k0_pay469 x0 x1 x2 (ix2 r k) = closeness (blockRows x0 b n) (centres x2 1) k := by
  rw [← rowOf_rows x0 x1 x2 r b n hr, ← slab_second x2]
  exact close_second _ _ r k
theorem near2 (k : Fin 87) : k0_pay470 x0 x1 x2 (ix2 r k) = closeness (blockRows x0 b n) (centres x2 2) k := by
  rw [← rowOf_rows x0 x1 x2 r b n hr, ← slab_third x2]
  exact close_third _ _ r k

/-- A row of the stacked weights. -/
theorem weights_at (k : Fin 87) : k0_pay471 x0 x1 x2 (ix2 r k) = weight (blockRows x0 b n) (centres x2) (x1 (ix3 b n 0)) k := by
  rw [stack_s]
  refine soft _ _ _ _ _ _ r k (score (blockRows x0 b n) (centres x2) (x1 (ix3 b n 0))) fun j => ?_
  rw [near0 x0 x1 x2 r b n hr, near1 x0 x1 x2 r b n hr, maskRows_at x1 r b n hr]
  show max _ (k0_pay470 x0 x1 x2 (ix2 r j)) * _ * _ = _
  rw [near2 x0 x1 x2 r b n hr]
  rfl
omit hr

theorem best0 (k : Fin 87) : tops (k0_pay468 x0 x1 x2) (ix2 b k) = best (blockRows x0 b) (centres x2 0) k := by
  rw [tops_at]
  exact congrArg (fun f => Finset.univ.fold max (Ideal.ofBits .f32 0xFF800000#32) f)
    (funext fun m => near0 x0 x1 x2 _ b m rfl k)
theorem best1 (k : Fin 87) : tops (k0_pay469 x0 x1 x2) (ix2 b k) = best (blockRows x0 b) (centres x2 1) k := by
  rw [tops_at]
  exact congrArg (fun f => Finset.univ.fold max (Ideal.ofBits .f32 0xFF800000#32) f)
    (funext fun m => near1 x0 x1 x2 _ b m rfl k)
theorem best2 (k : Fin 87) : tops (k0_pay470 x0 x1 x2) (ix2 b k) = best (blockRows x0 b) (centres x2 2) k := by
  rw [tops_at]
  exact congrArg (fun f => Finset.univ.fold max (Ideal.ofBits .f32 0xFF800000#32) f)
    (funext fun m => near2 x0 x1 x2 _ b m rfl k)

include hr
/-- A row of the stacked features. -/
theorem features_at (d : Fin 768) : k0_pay534 x0 x1 x2 (ix2 r d) = feature (blockRows x0 b) (centres x2) (x1 (ix3 b n 0)) n d := by
  have e : k0_pay534 x0 x1 x2 = k0_pay322 (k0_pay532 x0 x1 x2) (k0_pay533 x0 x1 x2) (View.ld x2 r0_130) := rfl
  rw [e, three_heads, pay532_eq]
  refine (congrArg₂ (· + ·) (two_heads _ _ _ _ _ r b n hr d) (Finset.sum_congr rfl fun k _ => ?_)).trans (b :=
    ∑ k, k0_pay471 x0 x1 x2 (ix2 r k) * bit (first (tops (k0_pay468 x0 x1 x2)) (tops (k0_pay469 x0 x1 x2)) (tops (k0_pay470 x0 x1 x2)) (ix2 b k)) * slab (View.ld x2 r0_128) k d
    + ∑ k, k0_pay471 x0 x1 x2 (ix2 r k) * bit (second (tops (k0_pay468 x0 x1 x2)) (tops (k0_pay469 x0 x1 x2)) (tops (k0_pay470 x0 x1 x2)) (ix2 b k)) * slab (View.ld x2 r0_129) k d
    + ∑ k, k0_pay471 x0 x1 x2 (ix2 r k) * bit (third (tops (k0_pay468 x0 x1 x2)) (tops (k0_pay469 x0 x1 x2)) (tops (k0_pay470 x0 x1 x2)) (ix2 b k)) * slab (View.ld x2 r0_130) k d) ?_
  · rw [pay533_eq]
    exact congrArg (· * slab (View.ld x2 r0_130) k d) (third_weights _ _ r b n hr k)
  rw [← Finset.sum_add_distrib, ← Finset.sum_add_distrib]
  refine Finset.sum_congr rfl fun k _ => ?_
  rw [slab_first, slab_second, slab_third,
    chosen _ _ _ b k (k0_pay471 x0 x1 x2 (ix2 r k)) fun h => centres x2 h k d,
    weights_at x0 x1 x2 r b n hr k, best0, best1, best2]
  rfl
end
end Cert.Proof
end
-- ==== Proof.Store.lean ====
module

public import proofs.«01_k».proof.Proof.Stack

@[expose] public section
set_option maxRecDepth 16384
noncomputable section
namespace Cert.Proof
open Idealize.ShloMosaic Idealize.SL.Sem Cert.KernelIdeal Cert.KernelIdeal.Gen

theorem inb_s (b : Fin 64) : ∀ a, (![(b : ℕ), 0, 0] : Fin 3 → ℕ) a + S1x43x87.size a ≤ S64x43x87.size a := by
  revert b; decide

theorem slices_out (b : Fin 64) : S2752x768.Slices ![43 * (b : ℕ), 0] S43x768 := by
  revert b; decide

/-- Rows `43 * b … 43 * b + 42` of `A`, stored as batch row `b` of the block of weights. -/
def sStore (A : FVec Ideal S2752x87 .f32) (b : Fin 64) : FVec Ideal S1x43x87 .f32 :=
  shapeCast S1x43x87 (extractStridedSlice S43x87 ![43 * (b : ℕ), 0] A (slices_group b)) shapeCasts_S43x87_S1x43x87

/-- Rows `43 * b … 43 * b + 42` of `A`, stored as batch row `b` of the block of features. -/
def fStore (A : FVec Ideal S2752x768 .f32) (b : Fin 64) : FVec Ideal S1x43x768 .f32 :=
  shapeCast S1x43x768 (extractStridedSlice S43x768 ![43 * (b : ℕ), 0] A (slices_out b)) shapeCasts_S43x768_S1x43x768

theorem sStore_at (A : FVec Ideal S2752x87 .f32) (b : Fin 64) (n : Fin 43) (k : Fin 87) :
    sStore A b (ix3 0 n k) = A (ix2 ⟨43 * b + n, by omega⟩ k) := by
  refine (shapeCast_addUnit_apply ![43, 87] _ _ (ix3 0 n k)).trans ?_
  refine extractStridedSlice_apply _ _ _ _ _ ?_
  intro a
  fin_cases a
  · rfl
  · exact (Nat.zero_add _).symm

theorem fStore_at (A : FVec Ideal S2752x768 .f32) (b : Fin 64) (n : Fin 43) (d : Fin 768) :
    fStore A b (ix3 0 n d) = A (ix2 ⟨43 * b + n, by omega⟩ d) := by
  refine (shapeCast_addUnit_apply ![43, 768] _ _ (ix3 0 n d)).trans ?_
  refine extractStridedSlice_apply _ _ _ _ _ ?_
  intro a
  fin_cases a
  · rfl
  · exact (Nat.zero_add _).symm

section
variable (x0 : Vec Ideal S64x43x768 .f32) (x1 : Vec Ideal S64x43x1 .f32) (x2 : Vec Ideal S3x87x768 .f32)

theorem out_s : out0_4 x0 x1 x2 = View.canon (List.ofFn fun k : Fin 64 =>
    ⟨Rect.unit (s := S64x43x87) ![((63 - k : Fin 64) : ℕ), 0, 0] S1x43x87.size (inb_s (63 - k)),
      sStore (k0_pay471 x0 x1 x2) (63 - k)⟩) := rfl

theorem out_f : out0_3 x0 x1 x2 = View.canon (List.ofFn fun k : Fin 64 =>
    ⟨Rect.unit (s := S64x43x768) ![((63 - k : Fin 64) : ℕ), 0, 0] S1x43x768.size (inb_x (63 - k)),
      fStore (k0_pay534 x0 x1 x2) (63 - k)⟩) := rfl

/-- The block of weights at `(b, n, k)` is row `43 * b + n` of the stacked weights. -/
theorem out_s_at (b : Fin 64) (n : Fin 43) (k : Fin 87) :
    out0_4 x0 x1 x2 (ix3 b n k) = k0_pay471 x0 x1 x2 (ix2 ⟨43 * b + n, by omega⟩ k) := by
  rw [out_s]
  refine View.canon_ofFn_unit_eq_of_forall _ _ _ _ _ _ ⟨63 - b, ?_⟩ ?_
  · rw [sub_sub_cancel]
    intro a
    fin_cases a
    · exact ⟨le_rfl, Nat.lt_succ_self _⟩
    · exact ⟨Nat.zero_le _, by show (n : ℕ) < 0 + 43; omega⟩
    · exact ⟨Nat.zero_le _, by show (k : ℕ) < 0 + 87; omega⟩
  · intro k' x hx
    have h0 : (b : ℕ) = ((63 - k' : Fin 64) : ℕ) + x 0 := hx 0
    have h1 : (n : ℕ) = 0 + x 1 := hx 1
    have h2 : (k : ℕ) = 0 + x 2 := hx 2
    have hx0 : (x 0 : ℕ) < 1 := (x 0).isLt
    have e : x = (ix3 0 n k : (⟨3, ![1, 43, 87]⟩ : Shape).Idx) := by
      funext a
      fin_cases a
      · exact Fin.ext (by show (x 0 : ℕ) = 0; omega)
      · exact Fin.ext (by show (x 1 : ℕ) = n; omega)
      · exact Fin.ext (by show (x 2 : ℕ) = k; omega)
    have hb : 63 - k' = b := Fin.ext (by omega)
    rw [e, hb]
    exact sStore_at _ b n k

/-- The block of features at `(b, n, d)` is row `43 * b + n` of the stacked features. -/
theorem out_f_at (b : Fin 64) (n : Fin 43) (d : Fin 768) :
    out0_3 x0 x1 x2 (ix3 b n d) = k0_pay534 x0 x1 x2 (ix2 ⟨43 * b + n, by omega⟩ d) := by
  rw [out_f]
  refine View.canon_ofFn_unit_eq_of_forall _ _ _ _ _ _ ⟨63 - b, ?_⟩ ?_
  · rw [sub_sub_cancel]
    intro a
    fin_cases a
    · exact ⟨le_rfl, Nat.lt_succ_self _⟩
    · exact ⟨Nat.zero_le _, by show (n : ℕ) < 0 + 43; omega⟩
    · exact ⟨Nat.zero_le _, by show (d : ℕ) < 0 + 768; omega⟩
  · intro k' x hx
    have h0 : (b : ℕ) = ((63 - k' : Fin 64) : ℕ) + x 0 := hx 0
    have h1 : (n : ℕ) = 0 + x 1 := hx 1
    have h2 : (d : ℕ) = 0 + x 2 := hx 2
    have hx0 : (x 0 : ℕ) < 1 := (x 0).isLt
    have e : x = (ix3 0 n d : (⟨3, ![1, 43, 768]⟩ : Shape).Idx) := by
      funext a
      fin_cases a
      · exact Fin.ext (by show (x 0 : ℕ) = 0; omega)
      · exact Fin.ext (by show (x 1 : ℕ) = n; omega)
      · exact Fin.ext (by show (x 2 : ℕ) = d; omega)
    have hb : 63 - k' = b := Fin.ext (by omega)
    rw [e, hb]
    exact fStore_at _ b n d
end
end Cert.Proof
end
-- ==== Proof.RefOps.lean ====
module

public import proofs.«01_k».proof.Defs
public import proofs.«01_k».proof.Proof.Gen.ReferenceIdeal
public import Idealize.ShloMosaic.Lib.Claim
public import Idealize.ShloMosaic.Lib.StableHlo.ReadAt

@[expose] public section
set_option maxRecDepth 16384
noncomputable section
namespace Cert.Proof
open Idealize.ShloMosaic Idealize.SL.Sem Cert.ReferenceIdeal Cert.ReferenceIdeal.Facts₀

variable {F : FTy → Type} [FloatOps F]

/-- The squared distances: up to the array of distances by batch row, row, head and centre. -/
def opsDist : List (HloOp τ sig (Elt F)) := [
  StableHlo.reshape main_arg2 main_v0 (rfl : (.f32 : EltTy) = .f32) shapeCasts_S3x87x768_S261x768,
  StableHlo.reshape main_arg0 main_v1 (rfl : (.f32 : EltTy) = .f32) shapeCasts_S1024x43x768_S44032x768,
  StableHlo.binary main_v0 main_v0 main_v2 (mulf : (⟨S261x768, .f32⟩ : BufTy).Contents (Elt F) → (⟨S261x768, .f32⟩ : BufTy).Contents (Elt F) → (⟨S261x768, .f32⟩ : BufTy).Contents (Elt F)),
  StableHlo.nullary main_cst (constant S_ .f32 0x00000000#32),
  StableHlo.binary main_v2 main_cst main_v3 ((fun x v => Host.reduceAdd x v reducesTo_S261x768_S261_d1 h_S_) : (⟨S261x768, .f32⟩ : BufTy).Contents (Elt F) → (⟨S_, .f32⟩ : BufTy).Contents (Elt F) → (⟨S261, .f32⟩ : BufTy).Contents (Elt F)),
  StableHlo.unary main_v3 main_v4 (broadcastInDim S261x1 ![0] bcast_S261_S261x1_0 : (⟨S261, .f32⟩ : BufTy).Contents (Elt F) → (⟨S261x1, .f32⟩ : BufTy).Contents (Elt F)),
  StableHlo.binary main_v1 main_v1 main_v5 (mulf : (⟨S44032x768, .f32⟩ : BufTy).Contents (Elt F) → (⟨S44032x768, .f32⟩ : BufTy).Contents (Elt F) → (⟨S44032x768, .f32⟩ : BufTy).Contents (Elt F)),
  StableHlo.nullary main_cst_0 (constant S_ .f32 0x00000000#32),
  StableHlo.binary main_v5 main_cst_0 main_v6 ((fun x v => Host.reduceAdd x v reducesTo_S44032x768_S44032_d1 h_S_) : (⟨S44032x768, .f32⟩ : BufTy).Contents (Elt F) → (⟨S_, .f32⟩ : BufTy).Contents (Elt F) → (⟨S44032, .f32⟩ : BufTy).Contents (Elt F)),
  StableHlo.unary main_v6 main_v7 (broadcastInDim S1x44032 ![1] bcast_S44032_S1x44032_1 : (⟨S44032, .f32⟩ : BufTy).Contents (Elt F) → (⟨S1x44032, .f32⟩ : BufTy).Contents (Elt F)),
  StableHlo.unary main_v4 main_v8 (broadcastInDim S261x44032 ![0, 1] bcast_S261x1_S261x44032_0_1 : (⟨S261x1, .f32⟩ : BufTy).Contents (Elt F) → (⟨S261x44032, .f32⟩ : BufTy).Contents (Elt F)),
  StableHlo.unary main_v7 main_v9 (broadcastInDim S261x44032 ![0, 1] bcast_S1x44032_S261x44032_0_1 : (⟨S1x44032, .f32⟩ : BufTy).Contents (Elt F) → (⟨S261x44032, .f32⟩ : BufTy).Contents (Elt F)),
  StableHlo.binary main_v8 main_v9 main_v10 (addf : (⟨S261x44032, .f32⟩ : BufTy).Contents (Elt F) → (⟨S261x44032, .f32⟩ : BufTy).Contents (Elt F) → (⟨S261x44032, .f32⟩ : BufTy).Contents (Elt F)),
  StableHlo.unary main_v1 main_v11 ((transpose S768x44032 [1, 0] · transposes_S44032x768_S768x44032_1_0) : (⟨S44032x768, .f32⟩ : BufTy).Contents (Elt F) → (⟨S768x44032, .f32⟩ : BufTy).Contents (Elt F)),
  StableHlo.binary main_v0 main_v11 main_v12 ((fun l r => Host.dotGeneral dot_S261x768_S768x44032_S261x44032_1_0_0_1_n_n none l r) : (⟨S261x768, .f32⟩ : BufTy).Contents (Elt F) → (⟨S768x44032, .f32⟩ : BufTy).Contents (Elt F) → (⟨S261x44032, .f32⟩ : BufTy).Contents (Elt F)),
  StableHlo.nullary main_cst_1 (constant S_ .f32 0x40000000#32),
  StableHlo.unary main_cst_1 main_v13 (broadcastInDim S261x44032 ![] bcast_S_S261x44032 : (⟨S_, .f32⟩ : BufTy).Contents (Elt F) → (⟨S261x44032, .f32⟩ : BufTy).Contents (Elt F)),
  StableHlo.binary main_v13 main_v12 main_v14 (mulf : (⟨S261x44032, .f32⟩ : BufTy).Contents (Elt F) → (⟨S261x44032, .f32⟩ : BufTy).Contents (Elt F) → (⟨S261x44032, .f32⟩ : BufTy).Contents (Elt F)),
  StableHlo.binary main_v10 main_v14 main_v15 (subf : (⟨S261x44032, .f32⟩ : BufTy).Contents (Elt F) → (⟨S261x44032, .f32⟩ : BufTy).Contents (Elt F) → (⟨S261x44032, .f32⟩ : BufTy).Contents (Elt F)),
  StableHlo.nullary main_cst_2 (constant S_ .f32 0x00000000#32),
  StableHlo.unary main_cst_2 main_v16 (broadcastInDim S261x44032 ![] bcast_S_S261x44032 : (⟨S_, .f32⟩ : BufTy).Contents (Elt F) → (⟨S261x44032, .f32⟩ : BufTy).Contents (Elt F)),
  StableHlo.binary main_v15 main_v16 main_v17 (maximumf : (⟨S261x44032, .f32⟩ : BufTy).Contents (Elt F) → (⟨S261x44032, .f32⟩ : BufTy).Contents (Elt F) → (⟨S261x44032, .f32⟩ : BufTy).Contents (Elt F)),
  StableHlo.reshape main_v17 main_v18 (rfl : (.f32 : EltTy) = .f32) shapeCasts_S261x44032_S3x87x1024x43,
  StableHlo.unary main_v18 main_v19 ((transpose S1024x43x3x87 [2, 3, 0, 1] · transposes_S3x87x1024x43_S1024x43x3x87_2_3_0_1) : (⟨S3x87x1024x43, .f32⟩ : BufTy).Contents (Elt F) → (⟨S1024x43x3x87, .f32⟩ : BufTy).Contents (Elt F))]

/-- Normalised and inverted: up to the closeness of every row to every centre of every head. -/
def opsClose : List (HloOp τ sig (Elt F)) := [
  StableHlo.nullary main_cst_3 (constant S_ .f32 0x00000000#32),
  StableHlo.binary main_v19 main_cst_3 main_v20 ((fun x v => Host.reduceAdd x v reducesTo_S1024x43x3x87_S1024x43x3_d3 h_S_) : (⟨S1024x43x3x87, .f32⟩ : BufTy).Contents (Elt F) → (⟨S_, .f32⟩ : BufTy).Contents (Elt F) → (⟨S1024x43x3, .f32⟩ : BufTy).Contents (Elt F)),
  StableHlo.unary main_v20 main_v21 (broadcastInDim S1024x43x3x1 ![0, 1, 2] bcast_S1024x43x3_S1024x43x3x1_0_1_2 : (⟨S1024x43x3, .f32⟩ : BufTy).Contents (Elt F) → (⟨S1024x43x3x1, .f32⟩ : BufTy).Contents (Elt F)),
  StableHlo.nullary main_cst_4 (constant S_ .f32 0x42AE0000#32),
  StableHlo.unary main_cst_4 main_v22 (broadcastInDim S1024x43x3x1 ![] bcast_S_S1024x43x3x1 : (⟨S_, .f32⟩ : BufTy).Contents (Elt F) → (⟨S1024x43x3x1, .f32⟩ : BufTy).Contents (Elt F)),
  StableHlo.binary main_v21 main_v22 main_v23 (Host.divf : (⟨S1024x43x3x1, .f32⟩ : BufTy).Contents (Elt F) → (⟨S1024x43x3x1, .f32⟩ : BufTy).Contents (Elt F) → (⟨S1024x43x3x1, .f32⟩ : BufTy).Contents (Elt F)),
  StableHlo.unary main_v23 main_v24 (broadcastInDim S1024x43x3x87 ![0, 1, 2, 3] bcast_S1024x43x3x1_S1024x43x3x87_0_1_2_3 : (⟨S1024x43x3x1, .f32⟩ : BufTy).Contents (Elt F) → (⟨S1024x43x3x87, .f32⟩ : BufTy).Contents (Elt F)),
  StableHlo.binary main_v19 main_v24 main_v25 (Host.divf : (⟨S1024x43x3x87, .f32⟩ : BufTy).Contents (Elt F) → (⟨S1024x43x3x87, .f32⟩ : BufTy).Contents (Elt F) → (⟨S1024x43x3x87, .f32⟩ : BufTy).Contents (Elt F)),
  StableHlo.unary main_v25 main_v26 ((transpose S1024x43x87x3 [0, 1, 3, 2] · transposes_S1024x43x3x87_S1024x43x87x3_0_1_3_2) : (⟨S1024x43x3x87, .f32⟩ : BufTy).Contents (Elt F) → (⟨S1024x43x87x3, .f32⟩ : BufTy).Contents (Elt F)),
  StableHlo.reshape main_v26 main_v27 (rfl : (.f32 : EltTy) = .f32) shapeCasts_S1024x43x87x3_S44032x87x3,
  StableHlo.nullary main_cst_5 (constant S_ .f32 0x3F800000#32),
  StableHlo.unary main_cst_5 main_v28 (broadcastInDim S44032x87x3 ![] bcast_S_S44032x87x3 : (⟨S_, .f32⟩ : BufTy).Contents (Elt F) → (⟨S44032x87x3, .f32⟩ : BufTy).Contents (Elt F)),
  StableHlo.binary main_v27 main_v28 main_v29 (Host.divf : (⟨S44032x87x3, .f32⟩ : BufTy).Contents (Elt F) → (⟨S44032x87x3, .f32⟩ : BufTy).Contents (Elt F) → (⟨S44032x87x3, .f32⟩ : BufTy).Contents (Elt F)),
  StableHlo.nullary main_cst_6 (constant S_ .f32 0x3F800000#32),
  StableHlo.unary main_cst_6 main_v30 (broadcastInDim S44032x87x3 ![] bcast_S_S44032x87x3 : (⟨S_, .f32⟩ : BufTy).Contents (Elt F) → (⟨S44032x87x3, .f32⟩ : BufTy).Contents (Elt F)),
  StableHlo.binary main_v30 main_v29 main_v31 (Host.divf : (⟨S44032x87x3, .f32⟩ : BufTy).Contents (Elt F) → (⟨S44032x87x3, .f32⟩ : BufTy).Contents (Elt F) → (⟨S44032x87x3, .f32⟩ : BufTy).Contents (Elt F))]

/-- The largest over the heads, masked and scaled. -/
def opsScore : List (HloOp τ sig (Elt F)) := [
  StableHlo.nullary main_cst_7 (constant S_ .f32 0xFF800000#32),
  StableHlo.binary main_v31 main_cst_7 main_v32 ((fun x v => Host.reduce FloatOps.maximumf x v reducesTo_S44032x87x3_S44032x87_d2 h_S_) : (⟨S44032x87x3, .f32⟩ : BufTy).Contents (Elt F) → (⟨S_, .f32⟩ : BufTy).Contents (Elt F) → (⟨S44032x87, .f32⟩ : BufTy).Contents (Elt F)),
  StableHlo.reshape main_v32 main_v33 (rfl : (.f32 : EltTy) = .f32) shapeCasts_S44032x87_S1024x43x87,
  StableHlo.unary main_arg1 main_v34 (uitofp .f32 : (⟨S1024x43, .i1⟩ : BufTy).Contents (Elt F) → (⟨S1024x43, .f32⟩ : BufTy).Contents (Elt F)),
  StableHlo.unary main_v34 main_v35 (broadcastInDim S1024x43x1 ![0, 1] bcast_S1024x43_S1024x43x1_0_1 : (⟨S1024x43, .f32⟩ : BufTy).Contents (Elt F) → (⟨S1024x43x1, .f32⟩ : BufTy).Contents (Elt F)),
  StableHlo.unary main_v35 main_v36 (broadcastInDim S1024x43x87 ![0, 1, 2] bcast_S1024x43x1_S1024x43x87_0_1_2 : (⟨S1024x43x1, .f32⟩ : BufTy).Contents (Elt F) → (⟨S1024x43x87, .f32⟩ : BufTy).Contents (Elt F)),
  StableHlo.binary main_v33 main_v36 main_v37 (mulf : (⟨S1024x43x87, .f32⟩ : BufTy).Contents (Elt F) → (⟨S1024x43x87, .f32⟩ : BufTy).Contents (Elt F) → (⟨S1024x43x87, .f32⟩ : BufTy).Contents (Elt F)),
  StableHlo.nullary main_cst_8 (constant S_ .f32 0x40A00000#32),
  StableHlo.unary main_cst_8 main_v38 (broadcastInDim S1024x43x87 ![] bcast_S_S1024x43x87 : (⟨S_, .f32⟩ : BufTy).Contents (Elt F) → (⟨S1024x43x87, .f32⟩ : BufTy).Contents (Elt F)),
  StableHlo.binary main_v37 main_v38 main_v39 (mulf : (⟨S1024x43x87, .f32⟩ : BufTy).Contents (Elt F) → (⟨S1024x43x87, .f32⟩ : BufTy).Contents (Elt F) → (⟨S1024x43x87, .f32⟩ : BufTy).Contents (Elt F))]

/-- The largest score of each row. -/
def opsPeak : List (HloOp τ sig (Elt F)) := [
  StableHlo.nullary main_cst_9 (constant S_ .f32 0xFF800000#32),
  StableHlo.binary main_v39 main_cst_9 main_v40 ((fun x v => Host.reduce FloatOps.maximumf x v reducesTo_S1024x43x87_S1024x43_d2 h_S_) : (⟨S1024x43x87, .f32⟩ : BufTy).Contents (Elt F) → (⟨S_, .f32⟩ : BufTy).Contents (Elt F) → (⟨S1024x43, .f32⟩ : BufTy).Contents (Elt F))]

/-- The exponentials of the scores, less their largest. -/
def opsExp : List (HloOp τ sig (Elt F)) := [
  StableHlo.nullary main_cst_10 (constant S_ .f32 0xFF800000#32),
  StableHlo.unary main_cst_10 main_v41 (broadcastInDim S1024x43 ![] bcast_S_S1024x43 : (⟨S_, .f32⟩ : BufTy).Contents (Elt F) → (⟨S1024x43, .f32⟩ : BufTy).Contents (Elt F)),
  StableHlo.binary main_v41 main_v40 main_v42 (maximumf : (⟨S1024x43, .f32⟩ : BufTy).Contents (Elt F) → (⟨S1024x43, .f32⟩ : BufTy).Contents (Elt F) → (⟨S1024x43, .f32⟩ : BufTy).Contents (Elt F)),
  StableHlo.unary main_v42 main_v43 (broadcastInDim S1024x43x1 ![0, 1] bcast_S1024x43_S1024x43x1_0_1 : (⟨S1024x43, .f32⟩ : BufTy).Contents (Elt F) → (⟨S1024x43x1, .f32⟩ : BufTy).Contents (Elt F)),
  StableHlo.unary main_v43 main_v44 (broadcastInDim S1024x43x87 ![0, 1, 2] bcast_S1024x43x1_S1024x43x87_0_1_2 : (⟨S1024x43x1, .f32⟩ : BufTy).Contents (Elt F) → (⟨S1024x43x87, .f32⟩ : BufTy).Contents (Elt F)),
  StableHlo.binary main_v39 main_v44 main_v45 (subf : (⟨S1024x43x87, .f32⟩ : BufTy).Contents (Elt F) → (⟨S1024x43x87, .f32⟩ : BufTy).Contents (Elt F) → (⟨S1024x43x87, .f32⟩ : BufTy).Contents (Elt F)),
  StableHlo.unary main_v45 main_v46 (Host.exp : (⟨S1024x43x87, .f32⟩ : BufTy).Contents (Elt F) → (⟨S1024x43x87, .f32⟩ : BufTy).Contents (Elt F))]

/-- The exponentials over their sum. -/
def opsSoft : List (HloOp τ sig (Elt F)) := [
  StableHlo.nullary main_cst_11 (constant S_ .f32 0x00000000#32),
  StableHlo.binary main_v46 main_cst_11 main_v47 ((fun x v => Host.reduceAdd x v reducesTo_S1024x43x87_S1024x43_d2 h_S_) : (⟨S1024x43x87, .f32⟩ : BufTy).Contents (Elt F) → (⟨S_, .f32⟩ : BufTy).Contents (Elt F) → (⟨S1024x43, .f32⟩ : BufTy).Contents (Elt F)),
  StableHlo.unary main_v47 main_v48 (broadcastInDim S1024x43x1 ![0, 1] bcast_S1024x43_S1024x43x1_0_1 : (⟨S1024x43, .f32⟩ : BufTy).Contents (Elt F) → (⟨S1024x43x1, .f32⟩ : BufTy).Contents (Elt F)),
  StableHlo.unary main_v48 main_v49 (broadcastInDim S1024x43x87 ![0, 1, 2] bcast_S1024x43x1_S1024x43x87_0_1_2 : (⟨S1024x43x1, .f32⟩ : BufTy).Contents (Elt F) → (⟨S1024x43x87, .f32⟩ : BufTy).Contents (Elt F)),
  StableHlo.binary main_v46 main_v49 main_v50 (Host.divf : (⟨S1024x43x87, .f32⟩ : BufTy).Contents (Elt F) → (⟨S1024x43x87, .f32⟩ : BufTy).Contents (Elt F) → (⟨S1024x43x87, .f32⟩ : BufTy).Contents (Elt F))]

/-- The centres laid out for every batch row, and the best closeness over the rows. -/
def opsBest : List (HloOp τ sig (Elt F)) := [
  StableHlo.unary main_arg2 main_v51 ((transpose S87x3x768 [1, 0, 2] · transposes_S3x87x768_S87x3x768_1_0_2) : (⟨S3x87x768, .f32⟩ : BufTy).Contents (Elt F) → (⟨S87x3x768, .f32⟩ : BufTy).Contents (Elt F)),
  StableHlo.unary main_v51 main_v52 (broadcastInDim S1x87x3x768 ![1, 2, 3] bcast_S87x3x768_S1x87x3x768_1_2_3 : (⟨S87x3x768, .f32⟩ : BufTy).Contents (Elt F) → (⟨S1x87x3x768, .f32⟩ : BufTy).Contents (Elt F)),
  StableHlo.unary main_v52 main_v53 (broadcastInDim S1024x87x3x768 ![0, 1, 2, 3] bcast_S1x87x3x768_S1024x87x3x768_0_1_2_3 : (⟨S1x87x3x768, .f32⟩ : BufTy).Contents (Elt F) → (⟨S1024x87x3x768, .f32⟩ : BufTy).Contents (Elt F)),
  StableHlo.reshape main_v53 main_v54 (rfl : (.f32 : EltTy) = .f32) shapeCasts_S1024x87x3x768_S89088x3x768,
  StableHlo.reshape main_v31 main_v55 (rfl : (.f32 : EltTy) = .f32) shapeCasts_S44032x87x3_S1024x43x87x3,
  StableHlo.unary main_v55 main_v56 ((transpose S1024x3x87x43 [0, 3, 2, 1] · transposes_S1024x43x87x3_S1024x3x87x43_0_3_2_1) : (⟨S1024x43x87x3, .f32⟩ : BufTy).Contents (Elt F) → (⟨S1024x3x87x43, .f32⟩ : BufTy).Contents (Elt F)),
  StableHlo.nullary main_cst_12 (constant S_ .f32 0xFF800000#32),
  StableHlo.binary main_v56 main_cst_12 main_v57 ((fun x v => Host.reduce FloatOps.maximumf x v reducesTo_S1024x3x87x43_S1024x3x87_d3 h_S_) : (⟨S1024x3x87x43, .f32⟩ : BufTy).Contents (Elt F) → (⟨S_, .f32⟩ : BufTy).Contents (Elt F) → (⟨S1024x3x87, .f32⟩ : BufTy).Contents (Elt F)),
  StableHlo.unary main_v57 main_v58 ((transpose S1024x87x3 [0, 2, 1] · transposes_S1024x3x87_S1024x87x3_0_2_1) : (⟨S1024x3x87, .f32⟩ : BufTy).Contents (Elt F) → (⟨S1024x87x3, .f32⟩ : BufTy).Contents (Elt F))]

/-- The position of the largest over the heads. -/
def opsPick : List (HloOp τ sig (Elt F)) := [
  StableHlo.TRef.nullary main_call0.v0 (iotaInDim S1024x87x3 32 2),
  StableHlo.TRef.nullary main_call0.cst (constant S_ .f32 0xFF800000#32),
  StableHlo.TRef.nullary main_call0.c (constantI S_ 32 0#32),
  StableHlo.TRef.quaternary (StableHlo.TRef.of main_v58) main_call0.v0 main_call0.cst main_call0.c main_call0.v1_0 (fun x y u v j => (Host.argReduce reducer_argmax_f32_i32 x y u v reducesTo_S1024x87x3_S1024x87_d2 h_S_ j).1),
  StableHlo.TRef.quaternary (StableHlo.TRef.of main_v58) main_call0.v0 main_call0.cst main_call0.c main_call0.v1_1 (fun x y u v j => (Host.argReduce reducer_argmax_f32_i32 x y u v reducesTo_S1024x87x3_S1024x87_d2 h_S_ j).2)]

/-- The chosen centres. -/
def opsTake : List (HloOp τ sig (Elt F)) := [
  StableHlo.reshape main_v59 main_v60 (rfl : (.i32 : EltTy) = .i32) shapeCasts_S1024x87_S89088,
  StableHlo.unary main_v60 main_v61 (broadcastInDim S89088x1x1 ![0] bcast_S89088_S89088x1x1_0 : (⟨S89088, .i32⟩ : BufTy).Contents (Elt F) → (⟨S89088x1x1, .i32⟩ : BufTy).Contents (Elt F)),
  StableHlo.TRef.nullary main_call1.c (constantI S_ 32 0#32),
  StableHlo.TRef.unary main_call1.c main_call1.v0 (broadcastInDim S89088x1x1 ![] bcast_S_S89088x1x1),
  StableHlo.TRef.binary (StableHlo.TRef.of main_v61) main_call1.v0 main_call1.v1 (cmpi .slt),
  StableHlo.TRef.nullary main_call1.c_0 (constantI S_ 32 3#32),
  StableHlo.TRef.unary main_call1.c_0 main_call1.v2 (broadcastInDim S89088x1x1 ![] bcast_S_S89088x1x1),
  StableHlo.TRef.binary (StableHlo.TRef.of main_v61) main_call1.v2 main_call1.v3 addi,
  StableHlo.TRef.ternary main_call1.v1 main_call1.v3 (StableHlo.TRef.of main_v61) main_call1.v4 select,
  StableHlo.TRef.nullary main_call1.c_1 (constantI S1 32 2#32),
  StableHlo.TRef.nullary main_call1.c_2 (constantI S_ 32 0#32),
  StableHlo.TRef.unary main_call1.c_2 main_call1.v5 (broadcastInDim S89088x1x1 ![] bcast_S_S89088x1x1),
  StableHlo.TRef.binary main_call1.v4 main_call1.v5 main_call1.v6 (cmpi .sge),
  StableHlo.TRef.unary main_call1.c_1 main_call1.v7 (broadcastInDim S1x1x1 ![2] bcast_S1_S1x1x1_2),
  StableHlo.TRef.unary main_call1.v7 main_call1.v8 (broadcastInDim S89088x1x1 ![0, 1, 2] bcast_S1x1x1_S89088x1x1_0_1_2),
  StableHlo.TRef.binary main_call1.v4 main_call1.v8 main_call1.v9 (cmpi .sle),
  StableHlo.TRef.binary main_call1.v6 main_call1.v9 main_call1.v10 andi,
  StableHlo.TRef.nullary main_call1.c_3 (constantI S_ 1 1#1),
  StableHlo.TRef.binary main_call1.v10 main_call1.c_3 main_call1.v11 (fun x v => Host.reduce IntOp.andi x v reducesTo_S89088x1x1_S89088x1_d2 h_S_),
  StableHlo.TRef.binary (StableHlo.TRef.of main_v54) main_call1.v4 main_call1.v12 (fun x i => Host.gather gather_S89088x3x768_S89088x1x1_S89088x1x768_2_1_0_0_1_2_11768 x i),
  StableHlo.TRef.unary main_call1.v11 main_call1.v13 (broadcastInDim S89088x1x768 ![0, 1] bcast_S89088x1_S89088x1x768_0_1),
  StableHlo.TRef.nullary main_call1.cst (constant S_ .f32 0x7FC00000#32),
  StableHlo.TRef.unary main_call1.cst main_call1.v14 (broadcastInDim S89088x1x768 ![] bcast_S_S89088x1x768),
  StableHlo.TRef.ternary main_call1.v13 main_call1.v12 main_call1.v14 main_call1.v15 select,
  StableHlo.reshape main_v62 main_v63 (rfl : (.f32 : EltTy) = .f32) shapeCasts_S89088x1x768_S89088x768,
  StableHlo.reshape main_v63 main_v64 (rfl : (.f32 : EltTy) = .f32) shapeCasts_S89088x768_S1024x87x768]

/-- The features, and the other two results. -/
def opsOut : List (HloOp τ sig (Elt F)) := [
  StableHlo.binary main_v50 main_v64 main_v65 ((fun l r => Host.dotGeneral dot_S1024x43x87_S1024x87x768_S1024x43x768_2_1_1_2_0_0 none l r) : (⟨S1024x43x87, .f32⟩ : BufTy).Contents (Elt F) → (⟨S1024x87x768, .f32⟩ : BufTy).Contents (Elt F) → (⟨S1024x43x768, .f32⟩ : BufTy).Contents (Elt F)),
  StableHlo.nullary main_cst_13 (constant S_ .f32 0x00000000#32),
  StableHlo.unary main_cst_13 main_v66 (broadcastInDim S1024x0x768 ![] bcast_S_S1024x0x768 : (⟨S_, .f32⟩ : BufTy).Contents (Elt F) → (⟨S1024x0x768, .f32⟩ : BufTy).Contents (Elt F)),
  StableHlo.binary main_v65 main_v66 main_v67 ((fun a b => concatenate S1024x43x768 1 [⟨S1024x43x768, a⟩, ⟨S1024x0x768, b⟩] concatenates_S1024x43x768_S1024x0x768_S1024x43x768_d1) : (⟨S1024x43x768, .f32⟩ : BufTy).Contents (Elt F) → (⟨S1024x0x768, .f32⟩ : BufTy).Contents (Elt F) → (⟨S1024x43x768, .f32⟩ : BufTy).Contents (Elt F)),
  StableHlo.unary main_v50 main_v68 ((transpose S1024x87x43 [0, 2, 1] · transposes_S1024x43x87_S1024x87x43_0_2_1) : (⟨S1024x43x87, .f32⟩ : BufTy).Contents (Elt F) → (⟨S1024x87x43, .f32⟩ : BufTy).Contents (Elt F)),
  StableHlo.binary main_v68 main_arg0 main_v69 ((fun l r => Host.dotGeneral dot_S1024x87x43_S1024x43x768_S1024x87x768_2_1_1_2_0_0 none l r) : (⟨S1024x87x43, .f32⟩ : BufTy).Contents (Elt F) → (⟨S1024x43x768, .f32⟩ : BufTy).Contents (Elt F) → (⟨S1024x87x768, .f32⟩ : BufTy).Contents (Elt F)),
  StableHlo.unary main_arg3 main_v70 ((transpose S768x768 [1, 0] · transposes_S768x768_S768x768_1_0) : (⟨S768x768, .f32⟩ : BufTy).Contents (Elt F) → (⟨S768x768, .f32⟩ : BufTy).Contents (Elt F)),
  StableHlo.binary main_v69 main_v70 main_v71 ((fun l r => Host.dotGeneral dot_S1024x87x768_S768x768_S1024x87x768_2_0_01_1_n_n none l r) : (⟨S1024x87x768, .f32⟩ : BufTy).Contents (Elt F) → (⟨S768x768, .f32⟩ : BufTy).Contents (Elt F) → (⟨S1024x87x768, .f32⟩ : BufTy).Contents (Elt F)),
  StableHlo.unary main_arg2 main_v72 ((transpose S87x3x768 [1, 0, 2] · transposes_S3x87x768_S87x3x768_1_0_2) : (⟨S3x87x768, .f32⟩ : BufTy).Contents (Elt F) → (⟨S87x3x768, .f32⟩ : BufTy).Contents (Elt F)),
  StableHlo.reshape main_v72 main_v73 (rfl : (.f32 : EltTy) = .f32) shapeCasts_S87x3x768_S261x768]

/-- The reference's operations in order, the two inlined functions in place of their calls. -/
def refOps : List (HloOp τ sig (Elt F)) :=
  opsDist ++ (opsClose ++ (opsScore ++ (opsPeak ++ (opsExp ++ (opsSoft ++ (opsBest ++ (opsPick ++ (opsTake ++ opsOut))))))))

/-- The reference is the straight line of these operations. -/
theorem ref_seq (d : Dev nD) : StableHlo.IsSeq (main (F := F) d) refOps := by
  hlo_seq

end Cert.Proof
end
-- ==== Proof.RefRun.lean ====
module

public import proofs.«01_k».proof.Proof.RefOps

@[expose] public section
set_option maxRecDepth 16384
noncomputable section
namespace Cert.Proof
open Idealize.ShloMosaic Idealize.SL.Sem Cert.ReferenceIdeal

/-- What the reference's buffers hold on one device after all its operations, from given contents. -/
abbrev refEnd (V : Valuation τ sig (Elt Ideal)) : Valuation τ sig (Elt Ideal) := StableHlo.after refOps V

/-- Every run of the reference ends with each buffer holding what the operations compute in order. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = refEnd (StableHlo.launchContents m d) (Proc.devRef .tc b) :=
  StableHlo.run_hlo _ _ ref_seq (by decide) (by decide)
    (by simp [refOps, opsDist, opsClose, opsScore, opsPeak, opsExp, opsSoft, opsBest, opsPick, opsTake, opsOut])
    (by
      simp only [refOps, opsDist, opsClose, opsScore, opsPeak, opsExp, opsSoft, opsBest, opsPick, opsTake, opsOut, List.cons_append, List.nil_append]
      intro _ h; (repeat (cases h with | head => rfl | tail _ h => ?_)); exact nomatch h) m ρ

/-- The buffers after all the operations are those after each of the ten stages in turn. -/
theorem refEnd_stages (V : Valuation τ sig (Elt Ideal)) :
    refEnd V = StableHlo.after opsOut (StableHlo.after opsTake (StableHlo.after opsPick (StableHlo.after opsBest
      (StableHlo.after opsSoft (StableHlo.after opsExp (StableHlo.after opsPeak (StableHlo.after opsScore (StableHlo.after opsClose (StableHlo.after opsDist V))))))))) := by
  simp only [refEnd, refOps, StableHlo.after_append]

/-- No operation of the reference writes its first argument. -/
theorem ref_arg0 (V : Valuation τ sig (Elt Ideal)) : refEnd V (Proc.devRef .tc main_arg0) = V (Proc.devRef .tc main_arg0) := by
  rw [refEnd_stages]; after_reads_simp

/-- No operation of the reference writes its second argument. -/
theorem ref_arg1 (V : Valuation τ sig (Elt Ideal)) : refEnd V (Proc.devRef .tc main_arg1) = V (Proc.devRef .tc main_arg1) := by
  rw [refEnd_stages]; after_reads_simp

/-- No operation of the reference writes its third argument. -/
theorem ref_arg2 (V : Valuation τ sig (Elt Ideal)) : refEnd V (Proc.devRef .tc main_arg2) = V (Proc.devRef .tc main_arg2) := by
  rw [refEnd_stages]; after_reads_simp

/-- No operation of the reference writes its fourth argument. -/
theorem ref_arg3 (V : Valuation τ sig (Elt Ideal)) : refEnd V (Proc.devRef .tc main_arg3) = V (Proc.devRef .tc main_arg3) := by
  rw [refEnd_stages]; after_reads_simp

/-- The reference's frame: its arguments end unchanged and every semaphore counter at zero. -/
theorem ref_frame : Cert.quiescent_ReferenceIdeal := by
  intro m ρ _
  exact (θ_run (defs (F := Ideal)) _ _).mono (fun r h => ⟨fun c => ⟨(h c main_arg0).trans (ref_arg0 _),
      (h c main_arg1).trans (ref_arg1 _), (h c main_arg2).trans (ref_arg2 _), (h c main_arg3).trans (ref_arg3 _)⟩,
      Idealize.ShloMosaic.sem_eq_zero_of_no_sems (by decide) r.2⟩)
    (ref_run m ρ)

end Cert.Proof
end
-- ==== Proof.RefStages.lean ====
module

public import proofs.«01_k».proof.Proof.RefRun
public import proofs.«01_k».proof.Proof.Model

@[expose] public section
set_option maxRecDepth 16384
noncomputable section
namespace Cert.Proof
open Idealize.ShloMosaic Idealize.SL.Sem Cert.ReferenceIdeal

variable (x : Fin 1024 → Fin 43 → Fin 768 → EReal) (c : Fin 3 → Fin 87 → Fin 768 → EReal) (m : Fin 1024 → Fin 43 → EReal)

/-- A position of the 44032 stacked rows is one of the 1024 batch rows. -/
theorem batch_lt (r : Fin 44032) : r.val / 43 < 1024 := by omega

/-- The place of a stacked row within its batch row. -/
theorem place_lt (r : Fin 44032) : r.val % 43 < 43 := by omega

/-- The reference's squared distances, by batch row, row, head and centre. -/
theorem dist_stage (V : Valuation τ sig (Elt Ideal))
    (hx : ∀ b n d, V (Proc.devRef .tc main_arg0) (ix3 b n d) = x b n d)
    (hc : ∀ h k d, V (Proc.devRef .tc main_arg2) (ix3 h k d) = c h k d)
    (b : Fin 1024) (n : Fin 43) (h : Fin 3) (k : Fin 87) :
    StableHlo.after opsDist V (Proc.devRef .tc main_v19) (ix4 b n h k) = sqDist (x b n) (c h) k := by
  after_reads_at
  have e1 : (⟨(h.val * 87 + k.val) / 87, by omega⟩ : Fin 3) = h := Fin.ext (by simp only []; omega)
  have e2 : (⟨(h.val * 87 + k.val) % 87, by omega⟩ : Fin 87) = k := Fin.ext (by simp only []; omega)
  have e3 : (⟨(b.val * 43 + n.val) / 43, by omega⟩ : Fin 1024) = b := Fin.ext (by simp only []; omega)
  have e4 : (⟨(b.val * 43 + n.val) % 43, by omega⟩ : Fin 43) = n := Fin.ext (by simp only []; omega)
  simp only [hx, hc, e1, e2, e3, e4]
  unfold sqDist
  rw [add_comm (∑ d, c h k d * c h k d)]
  simp only [mul_comm (c h k _) (x b n _)]

/-- The reference's closeness of every stacked row to every centre of every head. -/
theorem close_stage (V : Valuation τ sig (Elt Ideal))
    (hd : ∀ b n h k, V (Proc.devRef .tc main_v19) (ix4 b n h k) = sqDist (x b n) (c h) k)
    (r : Fin 44032) (k : Fin 87) (h : Fin 3) :
    StableHlo.after opsClose V (Proc.devRef .tc main_v31) (ix3 r k h)
      = closeness (x ⟨r.val / 43, batch_lt r⟩ ⟨r.val % 43, place_lt r⟩) (c h) k := by
  after_reads_at
  simp only [hd]
  rfl

/-- The pattern of minus infinity is the bottom of the extended reals. -/
theorem minus_infinity : Ideal.ofBits .f32 0xFF800000#32 = ⊥ := by simp [Ideal.ofBits, Ideal.ieee]

/-- Minus infinity is the neutral start of a maximum. -/
theorem max_minus_infinity (t : EReal) : max (Ideal.ofBits .f32 0xFF800000#32) t = t := by
  rw [minus_infinity]; exact max_eq_right bot_le

/-- The largest of three numbers from minus infinity on is the largest of the three. -/
theorem fold_three (f : Fin 3 → EReal) :
    Finset.univ.fold max (Ideal.ofBits .f32 0xFF800000#32) f = max (max (f 0) (f 1)) (f 2) := by
  rw [minus_infinity, show (Finset.univ : Finset (Fin 3)) = {0, 1, 2} from rfl]
  rw [Finset.fold_insert (by decide), Finset.fold_insert (by decide), Finset.fold_singleton]
  simp [max_assoc]

/-- The reference's scores. -/
theorem score_stage (V : Valuation τ sig (Elt Ideal))
    (hr : ∀ (r : Fin 44032) k h, V (Proc.devRef .tc main_v31) (ix3 r k h)
      = closeness (x ⟨r.val / 43, batch_lt r⟩ ⟨r.val % 43, place_lt r⟩) (c h) k)
    (hm : ∀ b n, (FloatOps.uitofp .f32 (V (Proc.devRef .tc main_arg1) (ix2 b n)) : Ideal .f32) = m b n)
    (b : Fin 1024) (n : Fin 43) (k : Fin 87) :
    StableHlo.after opsScore V (Proc.devRef .tc main_v39) (ix3 b n k) = score (x b n) c (m b n) k := by
  after_reads_at
  have e3 : (⟨(b.val * 43 + n.val) / 43, by omega⟩ : Fin 1024) = b := Fin.ext (by simp only []; omega)
  have e4 : (⟨(b.val * 43 + n.val) % 43, by omega⟩ : Fin 43) = n := Fin.ext (by simp only []; omega)
  simp only [hr, hm, e3, e4]
  rw [fold_three]
  rfl

/-- The reference's largest score of each row. -/
theorem peak_stage (V : Valuation τ sig (Elt Ideal))
    (hs : ∀ b n k, V (Proc.devRef .tc main_v39) (ix3 b n k) = score (x b n) c (m b n) k)
    (b : Fin 1024) (n : Fin 43) :
    StableHlo.after opsPeak V (Proc.devRef .tc main_v40) (ix2 b n) = peak (score (x b n) c (m b n)) := by
  after_reads_at
  simp only [hs]
  rfl

/-- The reference's exponentials: of each score less the largest of its row. -/
theorem exp_stage (V : Valuation τ sig (Elt Ideal))
    (hs : ∀ b n k, V (Proc.devRef .tc main_v39) (ix3 b n k) = score (x b n) c (m b n) k)
    (hp : ∀ b n, V (Proc.devRef .tc main_v40) (ix2 b n) = peak (score (x b n) c (m b n)))
    (b : Fin 1024) (n : Fin 43) (k : Fin 87) :
    StableHlo.after opsExp V (Proc.devRef .tc main_v46) (ix3 b n k)
      = Ideal.exp (score (x b n) c (m b n) k - peak (score (x b n) c (m b n))) := by
  after_reads_at
  simp only [hs, hp, max_minus_infinity]

/-- The reference's assignment weights. -/
theorem soft_stage (V : Valuation τ sig (Elt Ideal))
    (he : ∀ b n k, V (Proc.devRef .tc main_v46) (ix3 b n k)
      = Ideal.exp (score (x b n) c (m b n) k - peak (score (x b n) c (m b n))))
    (b : Fin 1024) (n : Fin 43) (k : Fin 87) :
    StableHlo.after opsSoft V (Proc.devRef .tc main_v50) (ix3 b n k) = weight (x b n) c (m b n) k := by
  after_reads_at
  simp only [he]
  rfl

/-- The reference's best closeness over the 43 rows of a batch row. -/
theorem best_stage (V : Valuation τ sig (Elt Ideal))
    (hr : ∀ (r : Fin 44032) k h, V (Proc.devRef .tc main_v31) (ix3 r k h)
      = closeness (x ⟨r.val / 43, batch_lt r⟩ ⟨r.val % 43, place_lt r⟩) (c h) k)
    (b : Fin 1024) (k : Fin 87) (h : Fin 3) :
    StableHlo.after opsBest V (Proc.devRef .tc main_v58) (ix3 b k h) = best (x b) (c h) k := by
  after_reads_at
  have e3 (n : Fin 43) : (⟨(b.val * 43 + n.val) / 43, by omega⟩ : Fin 1024) = b := Fin.ext (by simp only []; omega)
  have e4 (n : Fin 43) : (⟨(b.val * 43 + n.val) % 43, by omega⟩ : Fin 43) = n := Fin.ext (by simp only []; omega)
  simp only [hr, e3, e4]
  rfl

/-- The reference's centres, laid out once for every batch row. -/
theorem copies_stage (V : Valuation τ sig (Elt Ideal))
    (hc : ∀ h k d, V (Proc.devRef .tc main_arg2) (ix3 h k d) = c h k d)
    (r : Fin 89088) (h : Fin 3) (d : Fin 768) :
    StableHlo.after opsBest V (Proc.devRef .tc main_v54) (ix3 r h d) = c h ⟨r.val % 87, Nat.mod_lt _ (by decide)⟩ d := by
  after_reads_at
  simp only [hc]

end Cert.Proof
end
-- ==== Proof.RefPick.lean ====
module

public import proofs.«01_k».proof.Proof.RefStages
public import Idealize.ShloMosaic.PureOps.Reduce
public import Idealize.ShloMosaic.PureOps.Ideal.Laws

@[expose] public section
set_option maxRecDepth 16384
noncomputable section
namespace Cert.Proof
open Idealize.ShloMosaic Idealize.SL.Sem Cert.ReferenceIdeal

/-- A reduction along a last axis of three meets its three entries in order. -/
theorem three_in_order {n0 n1 : Nat} {α β : Type} (h : (⟨3, ![n0, n1, 3]⟩ : Shape).ReducesTo [2] ⟨2, ![n0, n1]⟩)
    (x : (⟨3, ![n0, n1, 3]⟩ : Shape).Idx → α) (y : (⟨3, ![n0, n1, 3]⟩ : Shape).Idx → β) (b : Fin n0) (k : Fin n1) :
    Host.argReduceFiber x y h (ix2 b k)
      = (List.finRange 3).map fun a => (x (ix3 b k a), y (ix3 b k a)) := by
  have key : (List.finRange (⟨3, ![n0, n1, 3]⟩ : Shape).numel).filter
      (fun n => h.drop ((⟨3, ![n0, n1, 3]⟩ : Shape).rowMajor.symm n) = ix2 b k)
      = (List.finRange 3).map fun a => (⟨3, ![n0, n1, 3]⟩ : Shape).rowMajor (ix3 b k a) := by
    have s1 : ((List.finRange (⟨3, ![n0, n1, 3]⟩ : Shape).numel).filter
        (fun n => h.drop ((⟨3, ![n0, n1, 3]⟩ : Shape).rowMajor.symm n) = ix2 b k)).Pairwise (· < ·) :=
      (List.pairwise_lt_finRange _).filter _
    have s2 : ((List.finRange 3).map fun a => (⟨3, ![n0, n1, 3]⟩ : Shape).rowMajor (ix3 b k a)).Pairwise (· < ·) := by
      rw [List.pairwise_map]
      refine (List.pairwise_lt_finRange 3).imp fun {a a'} haa => ?_
      rw [Fin.lt_def, rowMajor_val3 _ _ _ rfl rfl, rowMajor_val3 _ _ _ rfl rfl]
      exact Nat.add_lt_add_left haa _
    refine List.Perm.eq_of_pairwise (fun a a' _ _ h1 h2 => absurd h1 (lt_asymm h2)) s1 s2 ?_
    rw [List.perm_ext_iff_of_nodup (s1.imp ne_of_lt) (s2.imp ne_of_lt)]
    intro n
    simp only [List.mem_filter, List.mem_finRange, true_and, decide_eq_true_eq, List.mem_map]
    rw [h.fiber_r3_a2]
    constructor
    · rintro ⟨a, ha⟩; exact ⟨a, by rw [← Equiv.eq_symm_apply]; exact ha⟩
    · rintro ⟨a, ha⟩; exact ⟨a, by rw [← ha, Equiv.symm_apply_apply]; rfl⟩
  unfold Host.argReduceFiber
  rw [key, List.map_map]
  simp only [Function.comp_def, Equiv.symm_apply_apply]

/-- One step of the search: the larger value, with the later place only where it is strictly larger. -/
theorem search_step (u v : EReal) (i j : BitVec 32) (hij : i = j ∨ i.slt j = true) :
    reducer_argmax_f32_i32 (F := Ideal) (u, i) (v, j) = (max u v, if u < v then j else i) := by
  unfold reducer_argmax_f32_i32
  rcases lt_trichotomy u v with h | h | h
  · have h1 : ¬ v < u := not_lt.2 h.le
    have h2 : u ≠ v := h.ne
    simp [Ideal.cmpf_def, Ideal.cmp, IntOp.ori, IntOp.andi, Scalar.select, h, h1, h2, max_eq_right h.le]
  · subst h
    rcases hij with rfl | hij
    · simp [Ideal.cmpf_def, Ideal.cmp, IntOp.ori, IntOp.andi, Scalar.select]
    · simp [Ideal.cmpf_def, Ideal.cmp, IntOp.ori, IntOp.andi, IntOp.cmpi, Scalar.select, hij]
  · have h1 : ¬ u < v := not_lt.2 h.le
    have h2 : u ≠ v := h.ne'
    simp [Ideal.cmpf_def, Ideal.cmp, IntOp.ori, IntOp.andi, Scalar.select, h, h1, h2, max_eq_left h.le]

/-- The search over three values from minus infinity ends at the first largest. -/
theorem search_three (f : Fin 3 → EReal) :
    (((List.finRange 3).map fun a => (f a, BitVec.ofNat 32 a.val)).foldl (reducer_argmax_f32_i32 (F := Ideal))
      (Ideal.ofBits .f32 0xFF800000#32, 0#32)).2 = BitVec.ofNat 32 (choice (f 0) (f 1) (f 2)).val := by
  rw [show List.finRange 3 = [0, 1, 2] from rfl]
  simp only [List.map_cons, List.map_nil, List.foldl_cons, List.foldl_nil]
  rw [search_step _ (f 0) 0#32 (BitVec.ofNat 32 (0 : Fin 3).val) (Or.inl rfl), max_minus_infinity]
  have h0 : (if Ideal.ofBits .f32 0xFF800000#32 < f 0 then BitVec.ofNat 32 (0 : Fin 3).val else 0#32) = 0#32 := by
    split <;> rfl
  rw [h0, search_step _ (f 1) _ _ (Or.inr (by decide))]
  rw [search_step _ (f 2) _ _ (Or.inr (by split <;> decide))]
  unfold choice
  split
  · rfl
  · split <;> rfl

/-- The reference's choice of a head for each batch row and centre. -/
theorem pick_stage (x : Fin 1024 → Fin 43 → Fin 768 → EReal) (c : Fin 3 → Fin 87 → Fin 768 → EReal)
    (V : Valuation τ sig (Elt Ideal))
    (hb : ∀ b k h, V (Proc.devRef .tc main_v58) (ix3 b k h) = best (x b) (c h) k)
    (b : Fin 1024) (k : Fin 87) :
    StableHlo.after opsPick V (Proc.devRef .tc main_v59) (ix2 b k) = BitVec.ofNat 32 (head (x b) c k).val := by
  after_reads_simp
  simp -implicitDefEqProofs only [StableHlo.TRef.toBuf, StableHlo.TRef.ofBuf, cast_cast, cast_eq]
  rw [Ideal.argReduce_eq_reduce2, Host.reduce2_eq_foldl_fiber, three_in_order]
  simp only [hb]
  exact search_three fun h => best (x b) (c h) k

end Cert.Proof
end
-- ==== Proof.RefTake.lean ====
module

public import proofs.«01_k».proof.Proof.RefStages

@[expose] public section
set_option maxRecDepth 16384
noncomputable section
namespace Cert.Proof
open Idealize.ShloMosaic Idealize.SL.Sem Cert.ReferenceIdeal

/-- The dimension numbers of the gather along the heads. -/
abbrev headDims : GatherDims S89088x3x768 S89088x1x1 S89088x1x768 :=
  gather_S89088x3x768_S89088x1x1_S89088x1x768_2_1_0_0_1_2_11768

/-- The gather along the heads: row `r` of the result is row `r` of the operand at the head its index names, read
    signed and kept within the three heads. -/
theorem gather_head (X : S89088x3x768.Idx → EReal) (idx : IVec S89088x1x1 32) (r : Fin 89088) (d : Fin 768) :
    Host.gather headDims X idx (ix3 r 0 d)
      = X (ix3 r ⟨min (idx (ix3 r 0 0)).toInt.toNat 2, by omega⟩ d) := by
  unfold Host.gather
  congr 1
  funext a
  refine Fin.ext ?_
  show headDims.start (ix3 r 0 d) idx a + headDims.batchCoord (ix3 r 0 d) a + headDims.offCoord (ix3 r 0 d) a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl), GatherDims.offCoord_eq_zero _ _ _
      (fun h => ((GatherDims.mem_sKept _ _).mp h).2 (List.mem_singleton.mpr rfl))]
    unfold GatherDims.batchCoord
    rw [dif_pos (show (0 : Fin 3) ∈ headDims.operandBatchingDims from List.mem_singleton.mpr rfl), Nat.zero_add, Nat.add_zero]
    rfl
  · rw [GatherDims.batchCoord_eq_zero _ _ _ (show (1 : Fin 3) ∉ headDims.operandBatchingDims by decide),
      GatherDims.offCoord_eq_zero _ _ _ (fun h => ((GatherDims.mem_sKept _ _).mp h).1 (List.mem_singleton.mpr rfl))]
    unfold GatherDims.start
    rw [dif_pos (show (1 : Fin 3) ∈ headDims.startIndexMap from List.mem_singleton.mpr rfl)]
    have hsi (q) : headDims.siIdx (ix3 r 0 d) q = ix3 r 0 0 := by
      funext e
      refine Fin.ext ?_
      match e with
      | ⟨0, _⟩ => rfl
      | ⟨1, _⟩ => rfl
      | ⟨2, _⟩ => exact Nat.lt_one_iff.mp q.isLt
    rw [hsi]
    rfl
  · rw [GatherDims.batchCoord_eq_zero _ _ _ (show (2 : Fin 3) ∉ headDims.operandBatchingDims by decide)]
    unfold GatherDims.start
    rw [dif_neg (show (2 : Fin 3) ∉ headDims.startIndexMap by decide)]
    unfold GatherDims.offCoord
    rw [dif_pos (show (2 : Fin 3) ∈ headDims.sKept from (GatherDims.mem_sKept _ _).mpr ⟨by decide, by decide⟩), Nat.zero_add]
    rfl

/-- A place among three heads, as a word, passes the two range checks. -/
theorem in_range (q : Fin 3) :
    Finset.univ.fold IntOp.andi 1#1 (fun _ : Fin 1 => IntOp.andi
      (IntOp.cmpi .sge (Scalar.select (IntOp.cmpi .slt (BitVec.ofNat 32 q.val) 0#32)
        (IntOp.addi (BitVec.ofNat 32 q.val) 3#32) (BitVec.ofNat 32 q.val)) 0#32)
      (IntOp.cmpi .sle (Scalar.select (IntOp.cmpi .slt (BitVec.ofNat 32 q.val) 0#32)
        (IntOp.addi (BitVec.ofNat 32 q.val) 3#32) (BitVec.ofNat 32 q.val)) 2#32)) = 1#1 := by
  rw [Finset.univ_unique, Finset.fold_singleton]
  fin_cases q <;> rfl

/-- Wrapping a place among three heads from the end leaves it as it is, and clamping it too. -/
theorem unwrapped (q : Fin 3) :
    min (Scalar.select (IntOp.cmpi .slt (BitVec.ofNat 32 q.val) 0#32)
      (IntOp.addi (BitVec.ofNat 32 q.val) 3#32) (BitVec.ofNat 32 q.val) : BitVec 32).toInt.toNat 2 = q.val := by
  fin_cases q <;> rfl

/-- The reference's chosen centres: for each batch row and centre, the centre of the chosen head. -/
theorem take_stage (c : Fin 3 → Fin 87 → Fin 768 → EReal) (p : Fin 1024 → Fin 87 → Fin 3)
    (V : Valuation τ sig (Elt Ideal))
    (hp : ∀ b k, V (Proc.devRef .tc main_v59) (ix2 b k) = BitVec.ofNat 32 (p b k).val)
    (hc : ∀ (r : Fin 89088) h d, V (Proc.devRef .tc main_v54) (ix3 r h d) = c h ⟨r.val % 87, Nat.mod_lt _ (by decide)⟩ d)
    (b : Fin 1024) (k : Fin 87) (d : Fin 768) :
    StableHlo.after opsTake V (Proc.devRef .tc main_v64) (ix3 b k d) = c (p b k) k d := by
  after_reads_at
  have e1 : (⟨(b.val * 87 + k.val) / 87, by omega⟩ : Fin 1024) = b := Fin.ext (by simp only []; omega)
  have e2 : (⟨(b.val * 87 + k.val) % 87, by omega⟩ : Fin 87) = k := Fin.ext (by simp only []; omega)
  simp only [hp, e1, e2]
  rw [in_range, gather_head, hc]
  pointwise
  simp only [unwrapped, hp, e1, e2]

end Cert.Proof
end
-- ==== Proof.RefValue.lean ====
module

public import proofs.«01_k».proof.Proof.RefPick
public import proofs.«01_k».proof.Proof.RefTake

@[expose] public section
set_option maxRecDepth 16384
noncomputable section
namespace Cert.Proof
open Idealize.ShloMosaic Idealize.SL.Sem Cert.ReferenceIdeal

/-- The rows of batch row `b` of an array of rows. -/
abbrev rowsOf (X : S1024x43x768.Idx → EReal) (b : Fin 1024) : Fin 43 → Fin 768 → EReal := fun n d => X (ix3 b n d)

/-- The centres of the three heads in an array of centres. -/
abbrev centresOf (K : S3x87x768.Idx → EReal) : Fin 3 → Fin 87 → Fin 768 → EReal := fun h k d => K (ix3 h k d)

/-- The mask bit of a row, as a number. -/
abbrev maskOf (M : S1024x43.Idx → BitVec 1) (b : Fin 1024) (n : Fin 43) : EReal :=
  (FloatOps.uitofp .f32 (M (ix2 b n)) : Ideal .f32)

/-- The reference's features: the weighted sum of the chosen centres (what is joined to it is empty). -/
theorem out_stage (w : Fin 1024 → Fin 43 → Fin 87 → EReal) (t : Fin 1024 → Fin 87 → Fin 768 → EReal)
    (V : Valuation τ sig (Elt Ideal))
    (hw : ∀ b n k, V (Proc.devRef .tc main_v50) (ix3 b n k) = w b n k)
    (ht : ∀ b k d, V (Proc.devRef .tc main_v64) (ix3 b k d) = t b k d)
    (b : Fin 1024) (n : Fin 43) (d : Fin 768) :
    StableHlo.after opsOut V (Proc.devRef .tc main_v67) (ix3 b n d) = ∑ k, w b n k * t b k d := by
  after_reads_at
  simp only [hw, ht]

section
variable (V : Valuation τ sig (Elt Ideal))

/-- The rows the reference is given. -/
abbrev refX : Fin 1024 → Fin 43 → Fin 768 → EReal := rowsOf (V (Proc.devRef .tc main_arg0))
/-- The centres the reference is given. -/
abbrev refC : Fin 3 → Fin 87 → Fin 768 → EReal := centresOf (V (Proc.devRef .tc main_arg2))
/-- The mask the reference is given. -/
abbrev refM : Fin 1024 → Fin 43 → EReal := maskOf (V (Proc.devRef .tc main_arg1))

/-- The buffers after the closeness stage. -/
def atClose : Valuation τ sig (Elt Ideal) := StableHlo.after opsClose (StableHlo.after opsDist V)
/-- The buffers after the score stage. -/
def atScore : Valuation τ sig (Elt Ideal) := StableHlo.after opsScore (atClose V)
/-- The buffers after the softmax. -/
def atSoft : Valuation τ sig (Elt Ideal) := StableHlo.after opsSoft (StableHlo.after opsExp (StableHlo.after opsPeak (atScore V)))
/-- The buffers after the stage of the best closeness. -/
def atBest : Valuation τ sig (Elt Ideal) := StableHlo.after opsBest (atSoft V)
/-- The buffers after the choice of centres. -/
def atTake : Valuation τ sig (Elt Ideal) := StableHlo.after opsTake (StableHlo.after opsPick (atBest V))

/-- The buffers at the end, from those after the choice of centres. -/
theorem refEnd_eq : refEnd V = StableHlo.after opsOut (atTake V) := by
  rw [refEnd_stages]; rfl

/-- After the closeness stage the reference holds every closeness. -/
theorem close_held (r : Fin 44032) (k : Fin 87) (h : Fin 3) :
    atClose V (Proc.devRef .tc main_v31) (ix3 r k h)
      = closeness (refX V ⟨r.val / 43, batch_lt r⟩ ⟨r.val % 43, place_lt r⟩) (refC V h) k :=
  close_stage (refX V) (refC V) _ (dist_stage (refX V) (refC V) V (fun _ _ _ => rfl) (fun _ _ _ => rfl)) r k h

/-- The mask is not written before the score stage reads it. -/
theorem mask_held : atClose V (Proc.devRef .tc main_arg1) = V (Proc.devRef .tc main_arg1) := by
  unfold atClose; after_reads_simp

/-- After the score stage the reference holds every score. -/
theorem score_held (b : Fin 1024) (n : Fin 43) (k : Fin 87) :
    atScore V (Proc.devRef .tc main_v39) (ix3 b n k) = score (refX V b n) (refC V) (refM V b n) k :=
  score_stage (refX V) (refC V) (refM V) _ (close_held V) (fun b n => by rw [mask_held]) b n k

/-- The scores are kept while their largest is found. -/
theorem score_kept : StableHlo.after opsPeak (atScore V) (Proc.devRef .tc main_v39) = atScore V (Proc.devRef .tc main_v39) := by
  after_reads_simp

/-- After the softmax the reference holds every weight. -/
theorem weight_held (b : Fin 1024) (n : Fin 43) (k : Fin 87) :
    atSoft V (Proc.devRef .tc main_v50) (ix3 b n k) = weight (refX V b n) (refC V) (refM V b n) k :=
  soft_stage (refX V) (refC V) (refM V) _
    (exp_stage (refX V) (refC V) (refM V) _
      (fun b n k => by rw [score_kept]; exact score_held V b n k)
      (peak_stage (refX V) (refC V) (refM V) _ (score_held V))) b n k

/-- The closeness is kept through the softmax. -/
theorem close_kept : atSoft V (Proc.devRef .tc main_v31) = atClose V (Proc.devRef .tc main_v31) := by
  unfold atSoft atScore; after_reads_simp

/-- The centres are kept through the softmax. -/
theorem centres_kept : atSoft V (Proc.devRef .tc main_arg2) = V (Proc.devRef .tc main_arg2) := by
  unfold atSoft atScore atClose; after_reads_simp

/-- After its stage the reference holds the best closeness over the rows of every batch row. -/
theorem best_held (b : Fin 1024) (k : Fin 87) (h : Fin 3) :
    atBest V (Proc.devRef .tc main_v58) (ix3 b k h) = best (refX V b) (refC V h) k :=
  best_stage (refX V) (refC V) _ (fun r k h => by rw [close_kept]; exact close_held V r k h) b k h

/-- After the same stage it holds the centres once for every batch row. -/
theorem copies_held (r : Fin 89088) (h : Fin 3) (d : Fin 768) :
    atBest V (Proc.devRef .tc main_v54) (ix3 r h d) = refC V h ⟨r.val % 87, Nat.mod_lt _ (by decide)⟩ d :=
  copies_stage (refC V) _ (fun h k d => by rw [centres_kept]) r h d

/-- The copies of the centres are kept while the heads are chosen. -/
theorem copies_kept : StableHlo.after opsPick (atBest V) (Proc.devRef .tc main_v54) = atBest V (Proc.devRef .tc main_v54) := by
  after_reads_simp

/-- After the choice of centres the reference holds, for every batch row and centre, that of the chosen head. -/
theorem chosen_held (b : Fin 1024) (k : Fin 87) (d : Fin 768) :
    atTake V (Proc.devRef .tc main_v64) (ix3 b k d) = refC V (head (refX V b) (refC V) k) k d :=
  take_stage (refC V) (fun b k => head (refX V b) (refC V) k) _
    (pick_stage (refX V) (refC V) _ (best_held V))
    (fun r h d => by rw [copies_kept]; exact copies_held V r h d) b k d

/-- The weights are kept to the end of the choice of centres. -/
theorem weights_kept : atTake V (Proc.devRef .tc main_v50) = atSoft V (Proc.devRef .tc main_v50) := by
  unfold atTake atBest; after_reads_simp

/-- The weights the reference ends with. -/
theorem ref_weights (b : Fin 1024) (n : Fin 43) (k : Fin 87) :
    refEnd V (Proc.devRef .tc main_v50) (ix3 b n k) = weight (refX V b n) (refC V) (refM V b n) k := by
  have e : refEnd V (Proc.devRef .tc main_v50) = atTake V (Proc.devRef .tc main_v50) := by
    rw [refEnd_eq]; after_reads_simp
  rw [e, weights_kept]; exact weight_held V b n k

/-- The features the reference ends with. -/
theorem ref_features (b : Fin 1024) (n : Fin 43) (d : Fin 768) :
    refEnd V (Proc.devRef .tc main_v67) (ix3 b n d) = feature (refX V b) (refC V) (refM V b n) n d := by
  rw [refEnd_eq]
  exact out_stage (fun b n k => weight (refX V b n) (refC V) (refM V b n) k)
    (fun b k d => refC V (head (refX V b) (refC V) k) k d) _
    (fun b n k => by rw [weights_kept]; exact weight_held V b n k) (chosen_held V) b n d

/-- The reference's last result: the centres with the heads inside, as one table. -/
theorem ref_table :
    refEnd V (Proc.devRef .tc main_v73)
      = shapeCast S261x768 (transpose S87x3x768 [1, 0, 2] (V (Proc.devRef .tc main_arg2)) Gen.transposes_S3x87x768_S87x3x768_1_0_2)
          Gen.shapeCasts_S87x3x768_S261x768 := by
  rw [refEnd_stages]; after_reads_simp
  rfl

end

end Cert.Proof
end
-- ==== Proof.Blocks.lean ====
module

public import proofs.«01_k».proof.Proof.Features
public import proofs.«01_k».proof.Proof.Store
public import proofs.«01_k».proof.Proof.RefValue
public import proofs.«01_k».proof.Proof.Gen.KernelIdeal.Frame
public import Idealize.ShloMosaic.Lib.Pipeline.ValueKit

@[expose] public section
set_option maxRecDepth 16384
noncomputable section
namespace Cert.Proof
open Idealize.ShloMosaic Idealize.SL.Sem Cert.KernelIdeal Cert.KernelIdeal.Gen

variable (m : (ℓ : Loc nD τ sig) → Buf (Elt Ideal) ℓ) (c : Dev nD)

/-- The first `64 * t` rows of the batch come before block `t`. -/
theorem row_lt (t : Fin cfg0.N) (b : Fin 64) : 64 * (t : ℕ) + b < 1024 := by
  have : (t : ℕ) < 16 := t.isLt
  omega

/-- Batch row `b` of block `t`. -/
abbrev rowAt (t : Fin cfg0.N) (b : Fin 64) : Fin 1024 := ⟨64 * (t : ℕ) + b, row_lt t b⟩

/-- Which block of each array grid point `t` works on. -/
theorem block_index : ∀ t : Fin cfg0.N, win0_0.index t = ![(t : ℕ), 0, 0] ∧ win0_1.index t = ![(t : ℕ), 0, 0]
    ∧ win0_2.index t = ![0, 0, 0] ∧ win0_3.index t = ![(t : ℕ), 0, 0] ∧ win0_4.index t = ![(t : ℕ), 0, 0] := by
  decide +kernel

/-- The rows the kernel is given. -/
abbrev kerX : Fin 1024 → Fin 43 → Fin 768 → EReal := rowsOf (m ((c.tc : Thread nD τ).loc main_arg0))
/-- The centres the kernel is given. -/
abbrev kerC : Fin 3 → Fin 87 → Fin 768 → EReal := centresOf (m ((c.tc : Thread nD τ).loc main_arg2))
/-- The mask the kernel is given. -/
abbrev kerM : Fin 1024 → Fin 43 → EReal := maskOf (m ((c.tc : Thread nD τ).loc main_arg1))

/-- Block `t` of the rows. -/
theorem rows_block (t : Fin cfg0.N) (b : Fin 64) : blockRows (iblk m c 0 t) b = kerX m c (rowAt t b) := by
  funext n d
  show iblk m c 0 t (ix3 b n d) = m ((c.tc : Thread nD τ).loc main_arg0) (ix3 (rowAt t b) n d)
  blk_ext [iblk, V, block_index t]

/-- Every block of the centres is all of them. -/
theorem centres_block (t : Fin cfg0.N) : centres (iblk m c 2 t) = kerC m c := by
  funext h k d
  show iblk m c 2 t (ix3 h k d) = m ((c.tc : Thread nD τ).loc main_arg2) (ix3 h k d)
  blk_ext [iblk, V, block_index t]

/-- Block `t` of the mask. -/
theorem mask_block (t : Fin cfg0.N) (b : Fin 64) (n : Fin 43) :
    iblk m c 1 t (ix3 b n 0) = kerM m c (rowAt t b) n := by
  have e : iblk m c 1 t (ix3 b n 0) = V m c main_v1 (ix3 (rowAt t b) n 0) := by
    blk_ext [iblk, block_index t]
  rw [e]
  show StableHlo.after hostOps0 (fun b => m (c, b)) (Proc.devRef .tc main_v1) (ix3 (rowAt t b) n 0) = _
  after_reads_at

/-- Where element `(b, n, d)` of block `t` of the features lies in the whole array. -/
theorem features_place (t : Fin cfg0.N) (y : ((cfg0.win 3).xblock (cfg0.grid.coords t)).Idx) :
    (win0_3.blk t).view.emb y 0 = rowAt t (y 0) ∧ (win0_3.blk t).view.emb y 1 = y 1 ∧ (win0_3.blk t).view.emb y 2 = y 2 := by
  refine ⟨Fin.ext ?_, Fin.ext ?_, Fin.ext ?_⟩ <;> blk_simp [block_index t]
  exact congrArg (· + _) (Nat.mul_comm _ _)

/-- Where element `(b, n, k)` of block `t` of the weights lies in the whole array. -/
theorem weights_place (t : Fin cfg0.N) (y : ((cfg0.win 4).xblock (cfg0.grid.coords t)).Idx) :
    (win0_4.blk t).view.emb y 0 = rowAt t (y 0) ∧ (win0_4.blk t).view.emb y 1 = y 1 ∧ (win0_4.blk t).view.emb y 2 = y 2 := by
  refine ⟨Fin.ext ?_, Fin.ext ?_, Fin.ext ?_⟩ <;> blk_simp [block_index t]
  exact congrArg (· + _) (Nat.mul_comm _ _)

/-- Block `t` of the features, from the arrays given. -/
theorem features_block (t : Fin cfg0.N) (b : Fin 64) (n : Fin 43) (d : Fin 768) :
    out0_3 (iblk m c 0 t) (iblk m c 1 t) (iblk m c 2 t) (ix3 b n d)
      = feature (kerX m c (rowAt t b)) (kerC m c) (kerM m c (rowAt t b) n) n d := by
  rw [out_f_at, features_at _ _ _ _ b n rfl d, rows_block, centres_block, mask_block]

/-- Block `t` of the weights, from the arrays given. -/
theorem weights_block (t : Fin cfg0.N) (b : Fin 64) (n : Fin 43) (k : Fin 87) :
    out0_4 (iblk m c 0 t) (iblk m c 1 t) (iblk m c 2 t) (ix3 b n k)
      = weight (kerX m c (rowAt t b) n) (kerC m c) (kerM m c (rowAt t b) n) k := by
  rw [out_s_at, weights_at _ _ _ _ b n rfl k, rows_block, centres_block, mask_block]

/-- The kernel ends with every row's feature in its array of features. -/
theorem features_array : (dats m 0 c).arrAt 3 cfg0.N
    = fun i => feature (kerX m c (i 0)) (kerC m c) (kerM m c (i 0) (i 1)) (i 1) (i 2) := by
  refine (dats m 0 c).arrAt_eq_of_covers 3 _ (by decide +kernel) fun t hf y => ?_
  blk_simp
  rw [after0_3]
  obtain ⟨e0, e1, e2⟩ := features_place t y
  rw [e0, e1, e2]
  exact (congrArg _ (eq_ix3 (n0 := 64) (n1 := 43) (n2 := 768) y)).trans (features_block m c t (y 0) (y 1) (y 2))

/-- The kernel ends with every row's weights in its array of weights. -/
theorem weights_array : (dats m 0 c).arrAt 4 cfg0.N
    = fun i => weight (kerX m c (i 0) (i 1)) (kerC m c) (kerM m c (i 0) (i 1)) (i 2) := by
  refine (dats m 0 c).arrAt_eq_of_covers 4 _ (by decide +kernel) fun t hf y => ?_
  blk_simp
  rw [after0_4]
  obtain ⟨e0, e1, e2⟩ := weights_place t y
  rw [e0, e1, e2]
  exact (congrArg _ (eq_ix3 (n0 := 64) (n1 := 43) (n2 := 87) y)).trans (weights_block m c t (y 0) (y 1) (y 2))

end Cert.Proof
end
-- ==== Proof.Results.lean ====
module

public import proofs.«01_k».proof.Proof.Blocks
public import proofs.«01_k».proof.Defs

@[expose] public section
set_option maxRecDepth 16384
noncomputable section
namespace Cert.Proof
open Idealize.ShloMosaic Idealize.SL.Sem

/-- The features of an array of rows, of centres and of mask bits. -/
def featuresOf (X : Cert.KernelIdeal.S1024x43x768.Idx → EReal) (M : Cert.KernelIdeal.S1024x43.Idx → BitVec 1)
    (K : Cert.KernelIdeal.S3x87x768.Idx → EReal) : Cert.KernelIdeal.S1024x43x768.Idx → EReal :=
  fun i => feature (rowsOf X (i 0)) (centresOf K) (maskOf M (i 0) (i 1)) (i 1) (i 2)

/-- The weights of an array of rows, of centres and of mask bits. -/
def weightsOf (X : Cert.KernelIdeal.S1024x43x768.Idx → EReal) (M : Cert.KernelIdeal.S1024x43.Idx → BitVec 1)
    (K : Cert.KernelIdeal.S3x87x768.Idx → EReal) : Cert.KernelIdeal.S1024x43x87.Idx → EReal :=
  fun i => weight (rowsOf X (i 0) (i 1)) (centresOf K) (maskOf M (i 0) (i 1)) (i 2)

/-- The centres as one table, the three heads of a centre next to each other. -/
def tableOf (K : Cert.KernelIdeal.S3x87x768.Idx → EReal) : Cert.KernelIdeal.S261x768.Idx → EReal :=
  shapeCast Cert.KernelIdeal.S261x768 (transpose Cert.KernelIdeal.S87x3x768 [1, 0, 2] K Cert.KernelIdeal.Gen.transposes_S3x87x768_S87x3x768_1_0_2)
    Cert.KernelIdeal.Gen.shapeCasts_S87x3x768_S261x768

section
open Cert.KernelIdeal Cert.KernelIdeal.Gen

/-- The centres are the same after the region as before it. -/
theorem centres_after_region (m : (ℓ : Loc nD τ sig) → Buf (Elt Ideal) ℓ) (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_arr (cfgs 0).spec (by decide) c (V0 m c) (fun w => (dats m 0 c).arrAt w (cfgs 0).N) 2).trans
    (((dats m 0 c).arrAt_in 2 rfl _).trans ((A_eq m c 2).trans (V_main_arg2 m c)))

/-- The kernel runs, ends with the features, the weights and the table, and leaves its arguments as they were. -/
theorem kernel_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v2_0)
        = featuresOf (m ((c.tc : Thread nD τ).loc main_arg0)) (m ((c.tc : Thread nD τ).loc main_arg1)) (m ((c.tc : Thread nD τ).loc main_arg2))
      ∧ r.2.mem ((c.tc : Thread nD τ).loc main_v2_1)
        = weightsOf (m ((c.tc : Thread nD τ).loc main_arg0)) (m ((c.tc : Thread nD τ).loc main_arg1)) (m ((c.tc : Thread nD τ).loc main_arg2))
      ∧ r.2.mem ((c.tc : Thread nD τ).loc main_v4) = tableOf (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m g & unchanged m g
  · exact features_array m c
  · exact weights_array m c
  · unfold Pipeline.afterTail₀
    after_reads_simp
    exact congrArg tableOf (centres_after_region m c)

end

section
open Cert.ReferenceIdeal

/-- The reference runs, ends with the features, the weights and the table, and leaves its arguments as they were. -/
theorem reference_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v67)
        = featuresOf (m ((c.tc : Thread nD τ).loc main_arg0)) (m ((c.tc : Thread nD τ).loc main_arg1)) (m ((c.tc : Thread nD τ).loc main_arg2))
      ∧ r.2.mem ((c.tc : Thread nD τ).loc main_v50)
        = weightsOf (m ((c.tc : Thread nD τ).loc main_arg0)) (m ((c.tc : Thread nD τ).loc main_arg1)) (m ((c.tc : Thread nD τ).loc main_arg2))
      ∧ r.2.mem ((c.tc : Thread nD τ).loc main_v73) = tableOf (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h c => ?_) (ref_run m g)
  refine ⟨(h c main_v67).trans (funext fun i => ?_), (h c main_v50).trans (funext fun i => ?_),
    (h c main_v73).trans (ref_table _), (h c main_arg0).trans (ref_arg0 _), (h c main_arg1).trans (ref_arg1 _),
    (h c main_arg2).trans (ref_arg2 _), (h c main_arg3).trans (ref_arg3 _)⟩
  · rw [eq_ix3 (n0 := 1024) (n1 := 43) (n2 := 768) i]
    exact ref_features _ _ _ _
  · rw [eq_ix3 (n0 := 1024) (n1 := 43) (n2 := 87) i]
    exact ref_weights _ _ _ _

end

/-- From memories holding the same arguments, kernel and reference end with the same three results. -/
theorem same_results : Cert.algebraic_KernelIdeal_ReferenceIdeal := by
  intro m g m' g' _ hagree
  refine ⟨_, _, _, kernel_results m g, ?_⟩
  refine (θ_run (Cert.ReferenceIdeal.defs (F := Ideal)) _ _).mono (fun r h c => ?_) (reference_results m' g')
  obtain ⟨a0, a1, a2, a3⟩ := hagree c
  obtain ⟨h0, h1, h2, hargs⟩ := h c
  refine ⟨h0.trans ?_, h1.trans ?_, h2.trans ?_, hargs⟩
  · rw [a0, a1, a2]
  · rw [a0, a1, a2]
  · rw [a2]

end Cert.Proof
end
-- ==== Proof.lean ====
/- The certificate: its five claims, assembled from the modules under `Proof/`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Results
public import Idealize.ShloMosaic.Adequacy
public import Idealize.ShloMosaic.Init

@[expose] public section

noncomputable section

namespace Cert.Proof

open Idealize.ShloMosaic Idealize.SL.Sem

/-- All five claims: the three frames, the preservation and the agreement with the reference. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, ref_frame, trivial, same_results⟩

end Cert.Proof

end
